-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4608 : Shape := ⟨3, ![16, 1, 4608]⟩
abbrev S36864x2304 : Shape := ⟨2, ![36864, 2304]⟩
abbrev S36864x72 : Shape := ⟨2, ![36864, 72]⟩
abbrev S10368 : Shape := ⟨1, ![10368]⟩
abbrev S_ : Shape := ⟨0, ![]⟩
abbrev S1 : Shape := ⟨1, ![1]⟩
abbrev S16x4608 : Shape := ⟨2, ![16, 4608]⟩
abbrev S72x36864 : Shape := ⟨2, ![72, 36864]⟩
abbrev S81x128 : Shape := ⟨2, ![81, 128]⟩
abbrev S16x36864 : Shape := ⟨2, ![16, 36864]⟩
abbrev S1024x2304 : Shape := ⟨2, ![1024, 2304]⟩
abbrev S72x1024 : Shape := ⟨2, ![72, 1024]⟩
abbrev S16x1024 : Shape := ⟨2, ![16, 1024]⟩
abbrev S4x2304x128 : Shape := ⟨3, ![4, 2304, 128]⟩
abbrev S4x72x128 : Shape := ⟨3, ![4, 72, 128]⟩
abbrev S16x512 : Shape := ⟨2, ![16, 512]⟩
abbrev S16x128 : Shape := ⟨2, ![16, 128]⟩
abbrev S16x128x1 : Shape := ⟨3, ![16, 128, 1]⟩
abbrev S128x128 : Shape := ⟨2, ![128, 128]⟩
abbrev S1x128x128 : Shape := ⟨3, ![1, 128, 128]⟩
abbrev S1x128 : Shape := ⟨2, ![1, 128]⟩
abbrev S1x128x1 : Shape := ⟨3, ![1, 128, 1]⟩
abbrev S72x128 : Shape := ⟨2, ![72, 128]⟩
abbrev S1x72x128 : Shape := ⟨3, ![1, 72, 128]⟩
abbrev S8x128 : Shape := ⟨2, ![8, 128]⟩
abbrev S32x128 : Shape := ⟨2, ![32, 128]⟩
abbrev S16x256 : Shape := ⟨2, ![16, 256]⟩
abbrev S1x1x128 : Shape := ⟨3, ![1, 1, 128]⟩
abbrev S1x32x128 : Shape := ⟨3, ![1, 32, 128]⟩
abbrev S32x128x1 : Shape := ⟨3, ![32, 128, 1]⟩
abbrev S256x128 : Shape := ⟨2, ![256, 128]⟩
abbrev S256x256 : Shape := ⟨2, ![256, 256]⟩

abbrev nBuf : Space → Nat
  | .hbm => 10
  | .vmem => 14
  | .smem => 1
  | _ => 0

abbrev bufTy : (tb : Table) → Fin (tcTables nBuf tb) → BufTy
  | .hbm, ⟨0, _⟩ => ⟨S16x1x4608, .bf16⟩
  | .hbm, ⟨1, _⟩ => ⟨S36864x2304, .i8⟩
  | .hbm, ⟨2, _⟩ => ⟨S36864x72, .i8⟩
  | .hbm, ⟨3, _⟩ => ⟨S10368, .f32⟩
  | .hbm, ⟨4, _⟩ => ⟨S_, .f32⟩
  | .hbm, ⟨5, _⟩ => ⟨S1, .f32⟩
  | .hbm, ⟨6, _⟩ => ⟨S16x4608, .bf16⟩
  | .hbm, ⟨7, _⟩ => ⟨S72x36864, .i8⟩
  | .hbm, ⟨8, _⟩ => ⟨S81x128, .f32⟩
  | .hbm, ⟨9, _⟩ => ⟨S16x36864, .bf16⟩
  | .local _ .vmem, ⟨0, _⟩ => ⟨S16x4608, .bf16⟩
  | .local _ .vmem, ⟨1, _⟩ => ⟨S1024x2304, .i8⟩
  | .local _ .vmem, ⟨2, _⟩ => ⟨S1024x2304, .i8⟩
  | .local _ .vmem, ⟨3, _⟩ => ⟨S72x1024, .i8⟩
  | .local _ .vmem, ⟨4, _⟩ => ⟨S72x1024, .i8⟩
  | .local _ .vmem, ⟨5, _⟩ => ⟨S81x128, .f32⟩
  | .local _ .vmem, ⟨6, _⟩ => ⟨S16x1024, .bf16⟩
  | .local _ .vmem, ⟨7, _⟩ => ⟨S16x1024, .bf16⟩
  | .local _ .vmem, ⟨8, _⟩ => ⟨S16x4608, .bf16⟩
  | .local _ .vmem, ⟨9, _⟩ => ⟨S4x2304x128, .i8⟩
  | .local _ .vmem, ⟨10, _⟩ => ⟨S4x2304x128, .i8⟩
  | .local _ .vmem, ⟨11, _⟩ => ⟨S4x72x128, .f32⟩
  | .local _ .vmem, ⟨12, _⟩ => ⟨S4x72x128, .f32⟩
  | .local _ .vmem, ⟨13, _⟩ => ⟨S16x512, .bf16⟩
  | .local _ .smem, ⟨0, _⟩ => ⟨S1, .f32⟩
  | _, _ => ⟨S16x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_473 : BitVec 32) (c0_i32_475 : BitVec 32) : Fin 2 → Nat :=
  let arg0 : BitVec 32 := BitVec.ofNat 32 (i 0).val
  let c2_i32 : BitVec 32 := 2#32
  let v760 : BitVec 32 := Scalar.muli arg0 c2_i32
  let v761 : BitVec 32 := Scalar.addi v760 c0_i32_473
  let c4_i32_474 : BitVec 32 := 4#32
  let v762 : BitVec 32 := Scalar.muli v761 c4_i32_474
  let v763 : BitVec 32 := Scalar.addi v762 c0_i32_475
  let c36_i32_476 : BitVec 32 := 36#32
  let v764 : BitVec 32 := Scalar.muli v763 c36_i32_476
  let c7_i32 : BitVec 32 := 7#32
  let v765 : BitVec 32 := Scalar.shrsi v764 c7_i32
  let v767 : Index := Scalar.indexCast v765
  let c0_477 : Index := 0#32
  ![v767.toNat, 0]
def k0_off2 (i : grid0.Coords) (c0_i32_473 : BitVec 32) (c0_i32_475 : BitVec 32) : Fin 2 → Nat :=
  let arg0 : BitVec 32 := BitVec.ofNat 32 (i 0).val
  let c2_i32 : BitVec 32 := 2#32
  let v760 : BitVec 32 := Scalar.muli arg0 c2_i32
  let v761 : BitVec 32 := Scalar.addi v760 c0_i32_473
  let c4_i32_474 : BitVec 32 := 4#32
  let v762 : BitVec 32 := Scalar.muli v761 c4_i32_474
  let v763 : BitVec 32 := Scalar.addi v762 c0_i32_475
  let c36_i32_476 : BitVec 32 := 36#32
  let v764 : BitVec 32 := Scalar.muli v763 c36_i32_476
  let c7_i32 : BitVec 32 := 7#32
  let v765 : BitVec 32 := Scalar.shrsi v764 c7_i32
  let c1_i32_478 : BitVec 32 := 1#32
  let v770 : BitVec 32 := Scalar.addi v765 c1_i32_478
  let c80_i32 : BitVec 32 := 80#32
  let v771 : BitVec 32 := Scalar.minsi v770 c80_i32
  let v772 : Index := Scalar.indexCast v771
  let c0_479 : Index := 0#32
  ![v772.toNat, 0]
@[reducible] def k0_t1_loop : Scf.Loop 32 :=
  let c0_i32_564 : BitVec 32 := 0#32
  let c18_i32 : BitVec 32 := 18#32
  let v1055 : BitVec 32 := Scalar.addi c0_i32_564 c18_i32
  let c1_i32_565 : BitVec 32 := 1#32
  ⟨c0_i32_564, v1055, c1_i32_565⟩
def k0_off3 (k0_t1 : Fin k0_t1_loop.trips) (c0_i32_1031 : BitVec 32) : Fin 3 → Nat :=
  let c0_1032 : Index := 0#32
  let c0_i32_564 : BitVec 32 := 0#32
  let c1_i32_565 : BitVec 32 := 1#32
  let arg13 : BitVec 32 := Scf.iv c0_i32_564 c1_i32_565 k0_t1
  let c4_i32_1030 : BitVec 32 := 4#32
  let v1701 : BitVec 32 := Scalar.muli arg13 c4_i32_1030
  let v1702 : BitVec 32 := Scalar.addi v1701 c0_i32_1031
  let v1703 : Index := Scalar.indexCast v1702
  let c0_1033 : Index := 0#32
  ![0, v1703.toNat, 0]
def k0_mult1 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1030 : BitVec 32 := 4#32
  let v1701 : BitVec 32 := Scalar.muli arg13 c4_i32_1030
  let c0_i32_1031 : BitVec 32 := 0#32
  let v1702 : BitVec 32 := Scalar.addi v1701 c0_i32_1031
  let c32_i32 : BitVec 32 := 32#32
  let v1709 : BitVec 32 := Scalar.muli v1702 c32_i32
  v1709
def k0_off4 (k0_t1 : Fin k0_t1_loop.trips) (c0_i32_1031 : BitVec 32) : Fin 3 → Nat :=
  let c0_1034 : Index := 0#32
  let c0_i32_564 : BitVec 32 := 0#32
  let c1_i32_565 : BitVec 32 := 1#32
  let arg13 : BitVec 32 := Scf.iv c0_i32_564 c1_i32_565 k0_t1
  let c4_i32_1030 : BitVec 32 := 4#32
  let v1701 : BitVec 32 := Scalar.muli arg13 c4_i32_1030
  let v1702 : BitVec 32 := Scalar.addi v1701 c0_i32_1031
  let c32_i32 : BitVec 32 := 32#32
  let v1709 : BitVec 32 := Scalar.muli v1702 c32_i32
  let v1710 : BitVec 32 := v1709
  let v1711 : Index := Scalar.indexCast v1710
  let c0_1035 : Index := 0#32
  ![0, v1711.toNat, 0]
def k0_mult2 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1049 : BitVec 32 := 4#32
  let v1781 : BitVec 32 := Scalar.muli arg13 c4_i32_1049
  let c1_i32_1050 : BitVec 32 := 1#32
  let v1782 : BitVec 32 := Scalar.addi v1781 c1_i32_1050
  let c32_i32_1053 : BitVec 32 := 32#32
  let v1789 : BitVec 32 := Scalar.muli v1782 c32_i32_1053
  v1789
def k0_mult3 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1071 : BitVec 32 := 4#32
  let v1861 : BitVec 32 := Scalar.muli arg13 c4_i32_1071
  let c2_i32_1072 : BitVec 32 := 2#32
  let v1862 : BitVec 32 := Scalar.addi v1861 c2_i32_1072
  let c32_i32_1075 : BitVec 32 := 32#32
  let v1869 : BitVec 32 := Scalar.muli v1862 c32_i32_1075
  v1869
def k0_mult4 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1093 : BitVec 32 := 4#32
  let v1941 : BitVec 32 := Scalar.muli arg13 c4_i32_1093
  let c3_i32_1094 : BitVec 32 := 3#32
  let v1942 : BitVec 32 := Scalar.addi v1941 c3_i32_1094
  let c32_i32_1097 : BitVec 32 := 32#32
  let v1949 : BitVec 32 := Scalar.muli v1942 c32_i32_1097
  v1949
def k0_off5 (k0_t1 : Fin k0_t1_loop.trips) (c0_i32_1116 : BitVec 32) : Fin 3 → Nat :=
  let c1_1117 : Index := 1#32
  let c0_i32_564 : BitVec 32 := 0#32
  let c1_i32_565 : BitVec 32 := 1#32
  let arg13 : BitVec 32 := Scf.iv c0_i32_564 c1_i32_565 k0_t1
  let c4_i32_1115 : BitVec 32 := 4#32
  let v2022 : BitVec 32 := Scalar.muli arg13 c4_i32_1115
  let v2023 : BitVec 32 := Scalar.addi v2022 c0_i32_1116
  let v2024 : Index := Scalar.indexCast v2023
  let c0_1118 : Index := 0#32
  ![1, v2024.toNat, 0]
def k0_mult5 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1115 : BitVec 32 := 4#32
  let v2022 : BitVec 32 := Scalar.muli arg13 c4_i32_1115
  let c0_i32_1116 : BitVec 32 := 0#32
  let v2023 : BitVec 32 := Scalar.addi v2022 c0_i32_1116
  let c32_i32_1119 : BitVec 32 := 32#32
  let v2030 : BitVec 32 := Scalar.muli v2023 c32_i32_1119
  v2030
def k0_off6 (k0_t1 : Fin k0_t1_loop.trips) (c0_i32_1116 : BitVec 32) : Fin 3 → Nat :=
  let c1_1120 : Index := 1#32
  let c0_i32_564 : BitVec 32 := 0#32
  let c1_i32_565 : BitVec 32 := 1#32
  let arg13 : BitVec 32 := Scf.iv c0_i32_564 c1_i32_565 k0_t1
  let c4_i32_1115 : BitVec 32 := 4#32
  let v2022 : BitVec 32 := Scalar.muli arg13 c4_i32_1115
  let v2023 : BitVec 32 := Scalar.addi v2022 c0_i32_1116
  let c32_i32_1119 : BitVec 32 := 32#32
  let v2030 : BitVec 32 := Scalar.muli v2023 c32_i32_1119
  let v2031 : BitVec 32 := v2030
  let v2032 : Index := Scalar.indexCast v2031
  let c0_1121 : Index := 0#32
  ![1, v2032.toNat, 0]
def k0_mult6 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1137 : BitVec 32 := 4#32
  let v2102 : BitVec 32 := Scalar.muli arg13 c4_i32_1137
  let c1_i32_1138 : BitVec 32 := 1#32
  let v2103 : BitVec 32 := Scalar.addi v2102 c1_i32_1138
  let c32_i32_1141 : BitVec 32 := 32#32
  let v2110 : BitVec 32 := Scalar.muli v2103 c32_i32_1141
  v2110
def k0_mult7 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1159 : BitVec 32 := 4#32
  let v2182 : BitVec 32 := Scalar.muli arg13 c4_i32_1159
  let c2_i32_1160 : BitVec 32 := 2#32
  let v2183 : BitVec 32 := Scalar.addi v2182 c2_i32_1160
  let c32_i32_1163 : BitVec 32 := 32#32
  let v2190 : BitVec 32 := Scalar.muli v2183 c32_i32_1163
  v2190
def k0_mult8 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c4_i32_1181 : BitVec 32 := 4#32
  let v2262 : BitVec 32 := Scalar.muli arg13 c4_i32_1181
  let c3_i32_1182 : BitVec 32 := 3#32
  let v2263 : BitVec 32 := Scalar.addi v2262 c3_i32_1182
  let c32_i32_1185 : BitVec 32 := 32#32
  let v2270 : BitVec 32 := Scalar.muli v2263 c32_i32_1185
  v2270
def k0_mult9 (k0_t1 : Fin k0_t1_loop.trips) : BitVec 32 :=
  let c0_i32_564 : BitVec 32 := 0#32
  let c1_i32_565 : BitVec 32 := 1#32
  let arg13 : BitVec 32 := Scf.iv c0_i32_564 c1_i32_565 k0_t1
  let c256_i32_1203 : BitVec 32 := 256#32
  let v2344 : BitVec 32 := Scalar.muli arg13 c256_i32_1203
  v2344
def k0_off7 (k0_t1 : Fin k0_t1_loop.trips) : Fin 2 → Nat :=
  let c0_1204 : Index := 0#32
  let c0_i32_564 : BitVec 32 := 0#32
  let c1_i32_565 : BitVec 32 := 1#32
  let arg13 : BitVec 32 := Scf.iv c0_i32_564 c1_i32_565 k0_t1
  let c256_i32_1203 : BitVec 32 := 256#32
  let v2344 : BitVec 32 := Scalar.muli arg13 c256_i32_1203
  let v2345 : BitVec 32 := v2344
  let v2346 : Index := Scalar.indexCast v2345
  ![0, v2346.toNat]
@[reducible] def k0_t2_loop : Scf.Loop 32 :=
  let c0_i32_568 : BitVec 32 := 0#32
  let c18_i32_569 : BitVec 32 := 18#32
  let v1058 : BitVec 32 := Scalar.addi c0_i32_568 c18_i32_569
  let c1_i32_570 : BitVec 32 := 1#32
  ⟨c0_i32_568, v1058, c1_i32_570⟩
def k0_off8 (k0_t2 : Fin k0_t2_loop.trips) (c0_i32_1031 : BitVec 32) : Fin 3 → Nat :=
  let c2_1032 : Index := 2#32
  let c0_i32_568 : BitVec 32 := 0#32
  let c1_i32_570 : BitVec 32 := 1#32
  let arg13 : BitVec 32 := Scf.iv c0_i32_568 c1_i32_570 k0_t2
  let c4_i32_1030 : BitVec 32 := 4#32
  let v1701 : BitVec 32 := Scalar.muli arg13 c4_i32_1030
  let v1702 : BitVec 32 := Scalar.addi v1701 c0_i32_1031
  let v1703 : Index := Scalar.indexCast v1702
  let c0_1033 : Index := 0#32
  ![2, v1703.toNat, 0]
def k0_mult10 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1030 : BitVec 32 := 4#32
  let v1701 : BitVec 32 := Scalar.muli arg13 c4_i32_1030
  let c0_i32_1031 : BitVec 32 := 0#32
  let v1702 : BitVec 32 := Scalar.addi v1701 c0_i32_1031
  let c32_i32 : BitVec 32 := 32#32
  let v1709 : BitVec 32 := Scalar.muli v1702 c32_i32
  v1709
def k0_off9 (k0_t2 : Fin k0_t2_loop.trips) (c0_i32_1031 : BitVec 32) : Fin 3 → Nat :=
  let c2_1034 : Index := 2#32
  let c0_i32_568 : BitVec 32 := 0#32
  let c1_i32_570 : BitVec 32 := 1#32
  let arg13 : BitVec 32 := Scf.iv c0_i32_568 c1_i32_570 k0_t2
  let c4_i32_1030 : BitVec 32 := 4#32
  let v1701 : BitVec 32 := Scalar.muli arg13 c4_i32_1030
  let v1702 : BitVec 32 := Scalar.addi v1701 c0_i32_1031
  let c32_i32 : BitVec 32 := 32#32
  let v1709 : BitVec 32 := Scalar.muli v1702 c32_i32
  let v1710 : BitVec 32 := v1709
  let v1711 : Index := Scalar.indexCast v1710
  let c0_1035 : Index := 0#32
  ![2, v1711.toNat, 0]
def k0_mult11 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1049 : BitVec 32 := 4#32
  let v1781 : BitVec 32 := Scalar.muli arg13 c4_i32_1049
  let c1_i32_1050 : BitVec 32 := 1#32
  let v1782 : BitVec 32 := Scalar.addi v1781 c1_i32_1050
  let c32_i32_1053 : BitVec 32 := 32#32
  let v1789 : BitVec 32 := Scalar.muli v1782 c32_i32_1053
  v1789
def k0_mult12 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1071 : BitVec 32 := 4#32
  let v1861 : BitVec 32 := Scalar.muli arg13 c4_i32_1071
  let c2_i32_1072 : BitVec 32 := 2#32
  let v1862 : BitVec 32 := Scalar.addi v1861 c2_i32_1072
  let c32_i32_1075 : BitVec 32 := 32#32
  let v1869 : BitVec 32 := Scalar.muli v1862 c32_i32_1075
  v1869
def k0_mult13 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1093 : BitVec 32 := 4#32
  let v1941 : BitVec 32 := Scalar.muli arg13 c4_i32_1093
  let c3_i32_1094 : BitVec 32 := 3#32
  let v1942 : BitVec 32 := Scalar.addi v1941 c3_i32_1094
  let c32_i32_1097 : BitVec 32 := 32#32
  let v1949 : BitVec 32 := Scalar.muli v1942 c32_i32_1097
  v1949
def k0_off10 (k0_t2 : Fin k0_t2_loop.trips) (c0_i32_1116 : BitVec 32) : Fin 3 → Nat :=
  let c3_1117 : Index := 3#32
  let c0_i32_568 : BitVec 32 := 0#32
  let c1_i32_570 : BitVec 32 := 1#32
  let arg13 : BitVec 32 := Scf.iv c0_i32_568 c1_i32_570 k0_t2
  let c4_i32_1115 : BitVec 32 := 4#32
  let v2022 : BitVec 32 := Scalar.muli arg13 c4_i32_1115
  let v2023 : BitVec 32 := Scalar.addi v2022 c0_i32_1116
  let v2024 : Index := Scalar.indexCast v2023
  let c0_1118 : Index := 0#32
  ![3, v2024.toNat, 0]
def k0_mult14 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1115 : BitVec 32 := 4#32
  let v2022 : BitVec 32 := Scalar.muli arg13 c4_i32_1115
  let c0_i32_1116 : BitVec 32 := 0#32
  let v2023 : BitVec 32 := Scalar.addi v2022 c0_i32_1116
  let c32_i32_1119 : BitVec 32 := 32#32
  let v2030 : BitVec 32 := Scalar.muli v2023 c32_i32_1119
  v2030
def k0_off11 (k0_t2 : Fin k0_t2_loop.trips) (c0_i32_1116 : BitVec 32) : Fin 3 → Nat :=
  let c3_1120 : Index := 3#32
  let c0_i32_568 : BitVec 32 := 0#32
  let c1_i32_570 : BitVec 32 := 1#32
  let arg13 : BitVec 32 := Scf.iv c0_i32_568 c1_i32_570 k0_t2
  let c4_i32_1115 : BitVec 32 := 4#32
  let v2022 : BitVec 32 := Scalar.muli arg13 c4_i32_1115
  let v2023 : BitVec 32 := Scalar.addi v2022 c0_i32_1116
  let c32_i32_1119 : BitVec 32 := 32#32
  let v2030 : BitVec 32 := Scalar.muli v2023 c32_i32_1119
  let v2031 : BitVec 32 := v2030
  let v2032 : Index := Scalar.indexCast v2031
  let c0_1121 : Index := 0#32
  ![3, v2032.toNat, 0]
def k0_mult15 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1137 : BitVec 32 := 4#32
  let v2102 : BitVec 32 := Scalar.muli arg13 c4_i32_1137
  let c1_i32_1138 : BitVec 32 := 1#32
  let v2103 : BitVec 32 := Scalar.addi v2102 c1_i32_1138
  let c32_i32_1141 : BitVec 32 := 32#32
  let v2110 : BitVec 32 := Scalar.muli v2103 c32_i32_1141
  v2110
def k0_mult16 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1159 : BitVec 32 := 4#32
  let v2182 : BitVec 32 := Scalar.muli arg13 c4_i32_1159
  let c2_i32_1160 : BitVec 32 := 2#32
  let v2183 : BitVec 32 := Scalar.addi v2182 c2_i32_1160
  let c32_i32_1163 : BitVec 32 := 32#32
  let v2190 : BitVec 32 := Scalar.muli v2183 c32_i32_1163
  v2190
def k0_mult17 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c4_i32_1181 : BitVec 32 := 4#32
  let v2262 : BitVec 32 := Scalar.muli arg13 c4_i32_1181
  let c3_i32_1182 : BitVec 32 := 3#32
  let v2263 : BitVec 32 := Scalar.addi v2262 c3_i32_1182
  let c32_i32_1185 : BitVec 32 := 32#32
  let v2270 : BitVec 32 := Scalar.muli v2263 c32_i32_1185
  v2270
def k0_mult18 (k0_t2 : Fin k0_t2_loop.trips) : BitVec 32 :=
  let c0_i32_568 : BitVec 32 := 0#32
  let c1_i32_570 : BitVec 32 := 1#32
  let arg13 : BitVec 32 := Scf.iv c0_i32_568 c1_i32_570 k0_t2
  let c256_i32_1203 : BitVec 32 := 256#32
  let v2344 : BitVec 32 := Scalar.muli arg13 c256_i32_1203
  v2344
def k0_off12 (k0_t2 : Fin k0_t2_loop.trips) : Fin 2 → Nat :=
  let c0_1204 : Index := 0#32
  let c0_i32_568 : BitVec 32 := 0#32
  let c1_i32_570 : BitVec 32 := 1#32
  let arg13 : BitVec 32 := Scf.iv c0_i32_568 c1_i32_570 k0_t2
  let c256_i32_1203 : BitVec 32 := 256#32
  let v2344 : BitVec 32 := Scalar.muli arg13 c256_i32_1203
  let v2345 : BitVec 32 := v2344
  let v2346 : Index := Scalar.indexCast v2345
  ![0, v2346.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c36_i32 : BitVec 32 := 36#32
  let v4 : BitVec 1 := Scalar.cmpi .slt arg0 c36_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t3_loop : Scf.Loop 32 :=
  let c0_i32_10 : BitVec 32 := 0#32
  let c18_i32 : BitVec 32 := 18#32
  let v46 : BitVec 32 := Scalar.addi c0_i32_10 c18_i32
  let c1_i32_11 : BitVec 32 := 1#32
  ⟨c0_i32_10, v46, c1_i32_11⟩
def k0_off13 (k0_t3 : Fin k0_t3_loop.trips) (c0_i32_934 : BitVec 32) : Fin 3 → Nat :=
  let c0_935 : Index := 0#32
  let c0_i32_10 : BitVec 32 := 0#32
  let c1_i32_11 : BitVec 32 := 1#32
  let arg13 : BitVec 32 := Scf.iv c0_i32_10 c1_i32_11 k0_t3
  let c4_i32_933 : BitVec 32 := 4#32
  let v1373 : BitVec 32 := Scalar.muli arg13 c4_i32_933
  let v1374 : BitVec 32 := Scalar.addi v1373 c0_i32_934
  let v1375 : Index := Scalar.indexCast v1374
  let c0_936 : Index := 0#32
  ![0, v1375.toNat, 0]
def k0_mult19 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_933 : BitVec 32 := 4#32
  let v1373 : BitVec 32 := Scalar.muli arg13 c4_i32_933
  let c0_i32_934 : BitVec 32 := 0#32
  let v1374 : BitVec 32 := Scalar.addi v1373 c0_i32_934
  let c32_i32 : BitVec 32 := 32#32
  let v1381 : BitVec 32 := Scalar.muli v1374 c32_i32
  v1381
def k0_off14 (k0_t3 : Fin k0_t3_loop.trips) (c0_i32_934 : BitVec 32) : Fin 3 → Nat :=
  let c0_937 : Index := 0#32
  let c0_i32_10 : BitVec 32 := 0#32
  let c1_i32_11 : BitVec 32 := 1#32
  let arg13 : BitVec 32 := Scf.iv c0_i32_10 c1_i32_11 k0_t3
  let c4_i32_933 : BitVec 32 := 4#32
  let v1373 : BitVec 32 := Scalar.muli arg13 c4_i32_933
  let v1374 : BitVec 32 := Scalar.addi v1373 c0_i32_934
  let c32_i32 : BitVec 32 := 32#32
  let v1381 : BitVec 32 := Scalar.muli v1374 c32_i32
  let v1382 : BitVec 32 := v1381
  let v1383 : Index := Scalar.indexCast v1382
  let c0_938 : Index := 0#32
  ![0, v1383.toNat, 0]
def k0_mult20 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_952 : BitVec 32 := 4#32
  let v1453 : BitVec 32 := Scalar.muli arg13 c4_i32_952
  let c1_i32_953 : BitVec 32 := 1#32
  let v1454 : BitVec 32 := Scalar.addi v1453 c1_i32_953
  let c32_i32_956 : BitVec 32 := 32#32
  let v1461 : BitVec 32 := Scalar.muli v1454 c32_i32_956
  v1461
def k0_mult21 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_974 : BitVec 32 := 4#32
  let v1533 : BitVec 32 := Scalar.muli arg13 c4_i32_974
  let c2_i32_975 : BitVec 32 := 2#32
  let v1534 : BitVec 32 := Scalar.addi v1533 c2_i32_975
  let c32_i32_978 : BitVec 32 := 32#32
  let v1541 : BitVec 32 := Scalar.muli v1534 c32_i32_978
  v1541
def k0_mult22 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_996 : BitVec 32 := 4#32
  let v1613 : BitVec 32 := Scalar.muli arg13 c4_i32_996
  let c3_i32_997 : BitVec 32 := 3#32
  let v1614 : BitVec 32 := Scalar.addi v1613 c3_i32_997
  let c32_i32_1000 : BitVec 32 := 32#32
  let v1621 : BitVec 32 := Scalar.muli v1614 c32_i32_1000
  v1621
def k0_off15 (k0_t3 : Fin k0_t3_loop.trips) (c0_i32_1019 : BitVec 32) : Fin 3 → Nat :=
  let c1_1020 : Index := 1#32
  let c0_i32_10 : BitVec 32 := 0#32
  let c1_i32_11 : BitVec 32 := 1#32
  let arg13 : BitVec 32 := Scf.iv c0_i32_10 c1_i32_11 k0_t3
  let c4_i32_1018 : BitVec 32 := 4#32
  let v1694 : BitVec 32 := Scalar.muli arg13 c4_i32_1018
  let v1695 : BitVec 32 := Scalar.addi v1694 c0_i32_1019
  let v1696 : Index := Scalar.indexCast v1695
  let c0_1021 : Index := 0#32
  ![1, v1696.toNat, 0]
def k0_mult23 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_1018 : BitVec 32 := 4#32
  let v1694 : BitVec 32 := Scalar.muli arg13 c4_i32_1018
  let c0_i32_1019 : BitVec 32 := 0#32
  let v1695 : BitVec 32 := Scalar.addi v1694 c0_i32_1019
  let c32_i32_1022 : BitVec 32 := 32#32
  let v1702 : BitVec 32 := Scalar.muli v1695 c32_i32_1022
  v1702
def k0_off16 (k0_t3 : Fin k0_t3_loop.trips) (c0_i32_1019 : BitVec 32) : Fin 3 → Nat :=
  let c1_1023 : Index := 1#32
  let c0_i32_10 : BitVec 32 := 0#32
  let c1_i32_11 : BitVec 32 := 1#32
  let arg13 : BitVec 32 := Scf.iv c0_i32_10 c1_i32_11 k0_t3
  let c4_i32_1018 : BitVec 32 := 4#32
  let v1694 : BitVec 32 := Scalar.muli arg13 c4_i32_1018
  let v1695 : BitVec 32 := Scalar.addi v1694 c0_i32_1019
  let c32_i32_1022 : BitVec 32 := 32#32
  let v1702 : BitVec 32 := Scalar.muli v1695 c32_i32_1022
  let v1703 : BitVec 32 := v1702
  let v1704 : Index := Scalar.indexCast v1703
  let c0_1024 : Index := 0#32
  ![1, v1704.toNat, 0]
def k0_mult24 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_1040 : BitVec 32 := 4#32
  let v1774 : BitVec 32 := Scalar.muli arg13 c4_i32_1040
  let c1_i32_1041 : BitVec 32 := 1#32
  let v1775 : BitVec 32 := Scalar.addi v1774 c1_i32_1041
  let c32_i32_1044 : BitVec 32 := 32#32
  let v1782 : BitVec 32 := Scalar.muli v1775 c32_i32_1044
  v1782
def k0_mult25 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_1062 : BitVec 32 := 4#32
  let v1854 : BitVec 32 := Scalar.muli arg13 c4_i32_1062
  let c2_i32_1063 : BitVec 32 := 2#32
  let v1855 : BitVec 32 := Scalar.addi v1854 c2_i32_1063
  let c32_i32_1066 : BitVec 32 := 32#32
  let v1862 : BitVec 32 := Scalar.muli v1855 c32_i32_1066
  v1862
def k0_mult26 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c4_i32_1084 : BitVec 32 := 4#32
  let v1934 : BitVec 32 := Scalar.muli arg13 c4_i32_1084
  let c3_i32_1085 : BitVec 32 := 3#32
  let v1935 : BitVec 32 := Scalar.addi v1934 c3_i32_1085
  let c32_i32_1088 : BitVec 32 := 32#32
  let v1942 : BitVec 32 := Scalar.muli v1935 c32_i32_1088
  v1942
def k0_mult27 (k0_t3 : Fin k0_t3_loop.trips) : BitVec 32 :=
  let c0_i32_10 : BitVec 32 := 0#32
  let c1_i32_11 : BitVec 32 := 1#32
  let arg13 : BitVec 32 := Scf.iv c0_i32_10 c1_i32_11 k0_t3
  let c256_i32_1106 : BitVec 32 := 256#32
  let v2016 : BitVec 32 := Scalar.muli arg13 c256_i32_1106
  v2016
def k0_off17 (k0_t3 : Fin k0_t3_loop.trips) : Fin 2 → Nat :=
  let c0_1107 : Index := 0#32
  let c0_i32_10 : BitVec 32 := 0#32
  let c1_i32_11 : BitVec 32 := 1#32
  let arg13 : BitVec 32 := Scf.iv c0_i32_10 c1_i32_11 k0_t3
  let c256_i32_1106 : BitVec 32 := 256#32
  let v2016 : BitVec 32 := Scalar.muli arg13 c256_i32_1106
  let v2017 : BitVec 32 := v2016
  let v2018 : Index := Scalar.indexCast v2017
  ![0, v2018.toNat]
@[reducible] def k0_t4_loop : Scf.Loop 32 :=
  let c0_i32_14 : BitVec 32 := 0#32
  let c18_i32_15 : BitVec 32 := 18#32
  let v49 : BitVec 32 := Scalar.addi c0_i32_14 c18_i32_15
  let c1_i32_16 : BitVec 32 := 1#32
  ⟨c0_i32_14, v49, c1_i32_16⟩
def k0_off18 (k0_t4 : Fin k0_t4_loop.trips) (c0_i32_934 : BitVec 32) : Fin 3 → Nat :=
  let c2_935 : Index := 2#32
  let c0_i32_14 : BitVec 32 := 0#32
  let c1_i32_16 : BitVec 32 := 1#32
  let arg13 : BitVec 32 := Scf.iv c0_i32_14 c1_i32_16 k0_t4
  let c4_i32_933 : BitVec 32 := 4#32
  let v1373 : BitVec 32 := Scalar.muli arg13 c4_i32_933
  let v1374 : BitVec 32 := Scalar.addi v1373 c0_i32_934
  let v1375 : Index := Scalar.indexCast v1374
  let c0_936 : Index := 0#32
  ![2, v1375.toNat, 0]
def k0_mult28 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_933 : BitVec 32 := 4#32
  let v1373 : BitVec 32 := Scalar.muli arg13 c4_i32_933
  let c0_i32_934 : BitVec 32 := 0#32
  let v1374 : BitVec 32 := Scalar.addi v1373 c0_i32_934
  let c32_i32 : BitVec 32 := 32#32
  let v1381 : BitVec 32 := Scalar.muli v1374 c32_i32
  v1381
def k0_off19 (k0_t4 : Fin k0_t4_loop.trips) (c0_i32_934 : BitVec 32) : Fin 3 → Nat :=
  let c2_937 : Index := 2#32
  let c0_i32_14 : BitVec 32 := 0#32
  let c1_i32_16 : BitVec 32 := 1#32
  let arg13 : BitVec 32 := Scf.iv c0_i32_14 c1_i32_16 k0_t4
  let c4_i32_933 : BitVec 32 := 4#32
  let v1373 : BitVec 32 := Scalar.muli arg13 c4_i32_933
  let v1374 : BitVec 32 := Scalar.addi v1373 c0_i32_934
  let c32_i32 : BitVec 32 := 32#32
  let v1381 : BitVec 32 := Scalar.muli v1374 c32_i32
  let v1382 : BitVec 32 := v1381
  let v1383 : Index := Scalar.indexCast v1382
  let c0_938 : Index := 0#32
  ![2, v1383.toNat, 0]
def k0_mult29 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_952 : BitVec 32 := 4#32
  let v1453 : BitVec 32 := Scalar.muli arg13 c4_i32_952
  let c1_i32_953 : BitVec 32 := 1#32
  let v1454 : BitVec 32 := Scalar.addi v1453 c1_i32_953
  let c32_i32_956 : BitVec 32 := 32#32
  let v1461 : BitVec 32 := Scalar.muli v1454 c32_i32_956
  v1461
def k0_mult30 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_974 : BitVec 32 := 4#32
  let v1533 : BitVec 32 := Scalar.muli arg13 c4_i32_974
  let c2_i32_975 : BitVec 32 := 2#32
  let v1534 : BitVec 32 := Scalar.addi v1533 c2_i32_975
  let c32_i32_978 : BitVec 32 := 32#32
  let v1541 : BitVec 32 := Scalar.muli v1534 c32_i32_978
  v1541
def k0_mult31 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_996 : BitVec 32 := 4#32
  let v1613 : BitVec 32 := Scalar.muli arg13 c4_i32_996
  let c3_i32_997 : BitVec 32 := 3#32
  let v1614 : BitVec 32 := Scalar.addi v1613 c3_i32_997
  let c32_i32_1000 : BitVec 32 := 32#32
  let v1621 : BitVec 32 := Scalar.muli v1614 c32_i32_1000
  v1621
def k0_off20 (k0_t4 : Fin k0_t4_loop.trips) (c0_i32_1019 : BitVec 32) : Fin 3 → Nat :=
  let c3_1020 : Index := 3#32
  let c0_i32_14 : BitVec 32 := 0#32
  let c1_i32_16 : BitVec 32 := 1#32
  let arg13 : BitVec 32 := Scf.iv c0_i32_14 c1_i32_16 k0_t4
  let c4_i32_1018 : BitVec 32 := 4#32
  let v1694 : BitVec 32 := Scalar.muli arg13 c4_i32_1018
  let v1695 : BitVec 32 := Scalar.addi v1694 c0_i32_1019
  let v1696 : Index := Scalar.indexCast v1695
  let c0_1021 : Index := 0#32
  ![3, v1696.toNat, 0]
def k0_mult32 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_1018 : BitVec 32 := 4#32
  let v1694 : BitVec 32 := Scalar.muli arg13 c4_i32_1018
  let c0_i32_1019 : BitVec 32 := 0#32
  let v1695 : BitVec 32 := Scalar.addi v1694 c0_i32_1019
  let c32_i32_1022 : BitVec 32 := 32#32
  let v1702 : BitVec 32 := Scalar.muli v1695 c32_i32_1022
  v1702
def k0_off21 (k0_t4 : Fin k0_t4_loop.trips) (c0_i32_1019 : BitVec 32) : Fin 3 → Nat :=
  let c3_1023 : Index := 3#32
  let c0_i32_14 : BitVec 32 := 0#32
  let c1_i32_16 : BitVec 32 := 1#32
  let arg13 : BitVec 32 := Scf.iv c0_i32_14 c1_i32_16 k0_t4
  let c4_i32_1018 : BitVec 32 := 4#32
  let v1694 : BitVec 32 := Scalar.muli arg13 c4_i32_1018
  let v1695 : BitVec 32 := Scalar.addi v1694 c0_i32_1019
  let c32_i32_1022 : BitVec 32 := 32#32
  let v1702 : BitVec 32 := Scalar.muli v1695 c32_i32_1022
  let v1703 : BitVec 32 := v1702
  let v1704 : Index := Scalar.indexCast v1703
  let c0_1024 : Index := 0#32
  ![3, v1704.toNat, 0]
def k0_mult33 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_1040 : BitVec 32 := 4#32
  let v1774 : BitVec 32 := Scalar.muli arg13 c4_i32_1040
  let c1_i32_1041 : BitVec 32 := 1#32
  let v1775 : BitVec 32 := Scalar.addi v1774 c1_i32_1041
  let c32_i32_1044 : BitVec 32 := 32#32
  let v1782 : BitVec 32 := Scalar.muli v1775 c32_i32_1044
  v1782
def k0_mult34 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_1062 : BitVec 32 := 4#32
  let v1854 : BitVec 32 := Scalar.muli arg13 c4_i32_1062
  let c2_i32_1063 : BitVec 32 := 2#32
  let v1855 : BitVec 32 := Scalar.addi v1854 c2_i32_1063
  let c32_i32_1066 : BitVec 32 := 32#32
  let v1862 : BitVec 32 := Scalar.muli v1855 c32_i32_1066
  v1862
def k0_mult35 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c4_i32_1084 : BitVec 32 := 4#32
  let v1934 : BitVec 32 := Scalar.muli arg13 c4_i32_1084
  let c3_i32_1085 : BitVec 32 := 3#32
  let v1935 : BitVec 32 := Scalar.addi v1934 c3_i32_1085
  let c32_i32_1088 : BitVec 32 := 32#32
  let v1942 : BitVec 32 := Scalar.muli v1935 c32_i32_1088
  v1942
def k0_mult36 (k0_t4 : Fin k0_t4_loop.trips) : BitVec 32 :=
  let c0_i32_14 : BitVec 32 := 0#32
  let c1_i32_16 : BitVec 32 := 1#32
  let arg13 : BitVec 32 := Scf.iv c0_i32_14 c1_i32_16 k0_t4
  let c256_i32_1106 : BitVec 32 := 256#32
  let v2016 : BitVec 32 := Scalar.muli arg13 c256_i32_1106
  v2016
def k0_off22 (k0_t4 : Fin k0_t4_loop.trips) : Fin 2 → Nat :=
  let c0_1107 : Index := 0#32
  let c0_i32_14 : BitVec 32 := 0#32
  let c1_i32_16 : BitVec 32 := 1#32
  let arg13 : BitVec 32 := Scf.iv c0_i32_14 c1_i32_16 k0_t4
  let c256_i32_1106 : BitVec 32 := 256#32
  let v2016 : BitVec 32 := Scalar.muli arg13 c256_i32_1106
  let v2017 : BitVec 32 := v2016
  let v2018 : Index := Scalar.indexCast v2017
  ![0, v2018.toNat]
def k0_off23 (i : grid0.Coords) (c0_i32_367 : BitVec 32) (c0_i32_368 : BitVec 32) : Fin 2 → Nat :=
  let arg0 : BitVec 32 := BitVec.ofNat 32 (i 0).val
  let c2_i32_366 : BitVec 32 := 2#32
  let v432 : BitVec 32 := Scalar.muli arg0 c2_i32_366
  let v433 : BitVec 32 := Scalar.addi v432 c0_i32_367
  let c4_i32 : BitVec 32 := 4#32
  let v434 : BitVec 32 := Scalar.muli v433 c4_i32
  let v435 : BitVec 32 := Scalar.addi v434 c0_i32_368
  let c36_i32_369 : BitVec 32 := 36#32
  let v436 : BitVec 32 := Scalar.muli v435 c36_i32_369
  let c7_i32 : BitVec 32 := 7#32
  let v437 : BitVec 32 := Scalar.shrsi v436 c7_i32
  let v439 : Index := Scalar.indexCast v437
  let c0_370 : Index := 0#32
  ![v439.toNat, 0]
def k0_off24 (i : grid0.Coords) (c0_i32_367 : BitVec 32) (c0_i32_368 : BitVec 32) : Fin 2 → Nat :=
  let arg0 : BitVec 32 := BitVec.ofNat 32 (i 0).val
  let c2_i32_366 : BitVec 32 := 2#32
  let v432 : BitVec 32 := Scalar.muli arg0 c2_i32_366
  let v433 : BitVec 32 := Scalar.addi v432 c0_i32_367
  let c4_i32 : BitVec 32 := 4#32
  let v434 : BitVec 32 := Scalar.muli v433 c4_i32
  let v435 : BitVec 32 := Scalar.addi v434 c0_i32_368
  let c36_i32_369 : BitVec 32 := 36#32
  let v436 : BitVec 32 := Scalar.muli v435 c36_i32_369
  let c7_i32 : BitVec 32 := 7#32
  let v437 : BitVec 32 := Scalar.shrsi v436 c7_i32
  let c1_i32_371 : BitVec 32 := 1#32
  let v442 : BitVec 32 := Scalar.addi v437 c1_i32_371
  let c80_i32 : BitVec 32 := 80#32
  let v443 : BitVec 32 := Scalar.minsi v442 c80_i32
  let v444 : Index := Scalar.indexCast v443
  let c0_372 : Index := 0#32
  ![v444.toNat, 0]
@[reducible] def k0_t5_loop : Scf.Loop 32 :=
  let c0_i32_466 : BitVec 32 := 0#32
  let c18_i32_467 : BitVec 32 := 18#32
  let v727 : BitVec 32 := Scalar.addi c0_i32_466 c18_i32_467
  let c1_i32_468 : BitVec 32 := 1#32
  ⟨c0_i32_466, v727, c1_i32_468⟩
def k0_off25 (k0_t5 : Fin k0_t5_loop.trips) (c0_i32_934 : BitVec 32) : Fin 3 → Nat :=
  let c0_935 : Index := 0#32
  let c0_i32_466 : BitVec 32 := 0#32
  let c1_i32_468 : BitVec 32 := 1#32
  let arg13 : BitVec 32 := Scf.iv c0_i32_466 c1_i32_468 k0_t5
  let c4_i32_933 : BitVec 32 := 4#32
  let v1373 : BitVec 32 := Scalar.muli arg13 c4_i32_933
  let v1374 : BitVec 32 := Scalar.addi v1373 c0_i32_934
  let v1375 : Index := Scalar.indexCast v1374
  let c0_936 : Index := 0#32
  ![0, v1375.toNat, 0]
def k0_mult37 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_933 : BitVec 32 := 4#32
  let v1373 : BitVec 32 := Scalar.muli arg13 c4_i32_933
  let c0_i32_934 : BitVec 32 := 0#32
  let v1374 : BitVec 32 := Scalar.addi v1373 c0_i32_934
  let c32_i32 : BitVec 32 := 32#32
  let v1381 : BitVec 32 := Scalar.muli v1374 c32_i32
  v1381
def k0_off26 (k0_t5 : Fin k0_t5_loop.trips) (c0_i32_934 : BitVec 32) : Fin 3 → Nat :=
  let c0_937 : Index := 0#32
  let c0_i32_466 : BitVec 32 := 0#32
  let c1_i32_468 : BitVec 32 := 1#32
  let arg13 : BitVec 32 := Scf.iv c0_i32_466 c1_i32_468 k0_t5
  let c4_i32_933 : BitVec 32 := 4#32
  let v1373 : BitVec 32 := Scalar.muli arg13 c4_i32_933
  let v1374 : BitVec 32 := Scalar.addi v1373 c0_i32_934
  let c32_i32 : BitVec 32 := 32#32
  let v1381 : BitVec 32 := Scalar.muli v1374 c32_i32
  let v1382 : BitVec 32 := v1381
  let v1383 : Index := Scalar.indexCast v1382
  let c0_938 : Index := 0#32
  ![0, v1383.toNat, 0]
def k0_mult38 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_952 : BitVec 32 := 4#32
  let v1453 : BitVec 32 := Scalar.muli arg13 c4_i32_952
  let c1_i32_953 : BitVec 32 := 1#32
  let v1454 : BitVec 32 := Scalar.addi v1453 c1_i32_953
  let c32_i32_956 : BitVec 32 := 32#32
  let v1461 : BitVec 32 := Scalar.muli v1454 c32_i32_956
  v1461
def k0_mult39 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_974 : BitVec 32 := 4#32
  let v1533 : BitVec 32 := Scalar.muli arg13 c4_i32_974
  let c2_i32_975 : BitVec 32 := 2#32
  let v1534 : BitVec 32 := Scalar.addi v1533 c2_i32_975
  let c32_i32_978 : BitVec 32 := 32#32
  let v1541 : BitVec 32 := Scalar.muli v1534 c32_i32_978
  v1541
def k0_mult40 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_996 : BitVec 32 := 4#32
  let v1613 : BitVec 32 := Scalar.muli arg13 c4_i32_996
  let c3_i32_997 : BitVec 32 := 3#32
  let v1614 : BitVec 32 := Scalar.addi v1613 c3_i32_997
  let c32_i32_1000 : BitVec 32 := 32#32
  let v1621 : BitVec 32 := Scalar.muli v1614 c32_i32_1000
  v1621
def k0_off27 (k0_t5 : Fin k0_t5_loop.trips) (c0_i32_1019 : BitVec 32) : Fin 3 → Nat :=
  let c1_1020 : Index := 1#32
  let c0_i32_466 : BitVec 32 := 0#32
  let c1_i32_468 : BitVec 32 := 1#32
  let arg13 : BitVec 32 := Scf.iv c0_i32_466 c1_i32_468 k0_t5
  let c4_i32_1018 : BitVec 32 := 4#32
  let v1694 : BitVec 32 := Scalar.muli arg13 c4_i32_1018
  let v1695 : BitVec 32 := Scalar.addi v1694 c0_i32_1019
  let v1696 : Index := Scalar.indexCast v1695
  let c0_1021 : Index := 0#32
  ![1, v1696.toNat, 0]
def k0_mult41 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_1018 : BitVec 32 := 4#32
  let v1694 : BitVec 32 := Scalar.muli arg13 c4_i32_1018
  let c0_i32_1019 : BitVec 32 := 0#32
  let v1695 : BitVec 32 := Scalar.addi v1694 c0_i32_1019
  let c32_i32_1022 : BitVec 32 := 32#32
  let v1702 : BitVec 32 := Scalar.muli v1695 c32_i32_1022
  v1702
def k0_off28 (k0_t5 : Fin k0_t5_loop.trips) (c0_i32_1019 : BitVec 32) : Fin 3 → Nat :=
  let c1_1023 : Index := 1#32
  let c0_i32_466 : BitVec 32 := 0#32
  let c1_i32_468 : BitVec 32 := 1#32
  let arg13 : BitVec 32 := Scf.iv c0_i32_466 c1_i32_468 k0_t5
  let c4_i32_1018 : BitVec 32 := 4#32
  let v1694 : BitVec 32 := Scalar.muli arg13 c4_i32_1018
  let v1695 : BitVec 32 := Scalar.addi v1694 c0_i32_1019
  let c32_i32_1022 : BitVec 32 := 32#32
  let v1702 : BitVec 32 := Scalar.muli v1695 c32_i32_1022
  let v1703 : BitVec 32 := v1702
  let v1704 : Index := Scalar.indexCast v1703
  let c0_1024 : Index := 0#32
  ![1, v1704.toNat, 0]
def k0_mult42 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_1040 : BitVec 32 := 4#32
  let v1774 : BitVec 32 := Scalar.muli arg13 c4_i32_1040
  let c1_i32_1041 : BitVec 32 := 1#32
  let v1775 : BitVec 32 := Scalar.addi v1774 c1_i32_1041
  let c32_i32_1044 : BitVec 32 := 32#32
  let v1782 : BitVec 32 := Scalar.muli v1775 c32_i32_1044
  v1782
def k0_mult43 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_1062 : BitVec 32 := 4#32
  let v1854 : BitVec 32 := Scalar.muli arg13 c4_i32_1062
  let c2_i32_1063 : BitVec 32 := 2#32
  let v1855 : BitVec 32 := Scalar.addi v1854 c2_i32_1063
  let c32_i32_1066 : BitVec 32 := 32#32
  let v1862 : BitVec 32 := Scalar.muli v1855 c32_i32_1066
  v1862
def k0_mult44 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c4_i32_1084 : BitVec 32 := 4#32
  let v1934 : BitVec 32 := Scalar.muli arg13 c4_i32_1084
  let c3_i32_1085 : BitVec 32 := 3#32
  let v1935 : BitVec 32 := Scalar.addi v1934 c3_i32_1085
  let c32_i32_1088 : BitVec 32 := 32#32
  let v1942 : BitVec 32 := Scalar.muli v1935 c32_i32_1088
  v1942
def k0_mult45 (k0_t5 : Fin k0_t5_loop.trips) : BitVec 32 :=
  let c0_i32_466 : BitVec 32 := 0#32
  let c1_i32_468 : BitVec 32 := 1#32
  let arg13 : BitVec 32 := Scf.iv c0_i32_466 c1_i32_468 k0_t5
  let c256_i32_1106 : BitVec 32 := 256#32
  let v2016 : BitVec 32 := Scalar.muli arg13 c256_i32_1106
  v2016
def k0_off29 (k0_t5 : Fin k0_t5_loop.trips) : Fin 2 → Nat :=
  let c0_1107 : Index := 0#32
  let c0_i32_466 : BitVec 32 := 0#32
  let c1_i32_468 : BitVec 32 := 1#32
  let arg13 : BitVec 32 := Scf.iv c0_i32_466 c1_i32_468 k0_t5
  let c256_i32_1106 : BitVec 32 := 256#32
  let v2016 : BitVec 32 := Scalar.muli arg13 c256_i32_1106
  let v2017 : BitVec 32 := v2016
  let v2018 : Index := Scalar.indexCast v2017
  ![0, v2018.toNat]
@[reducible] def k0_t6_loop : Scf.Loop 32 :=
  let c0_i32_471 : BitVec 32 := 0#32
  let c18_i32_472 : BitVec 32 := 18#32
  let v730 : BitVec 32 := Scalar.addi c0_i32_471 c18_i32_472
  let c1_i32_473 : BitVec 32 := 1#32
  ⟨c0_i32_471, v730, c1_i32_473⟩
def k0_off30 (k0_t6 : Fin k0_t6_loop.trips) (c0_i32_934 : BitVec 32) : Fin 3 → Nat :=
  let c2_935 : Index := 2#32
  let c0_i32_471 : BitVec 32 := 0#32
  let c1_i32_473 : BitVec 32 := 1#32
  let arg13 : BitVec 32 := Scf.iv c0_i32_471 c1_i32_473 k0_t6
  let c4_i32_933 : BitVec 32 := 4#32
  let v1373 : BitVec 32 := Scalar.muli arg13 c4_i32_933
  let v1374 : BitVec 32 := Scalar.addi v1373 c0_i32_934
  let v1375 : Index := Scalar.indexCast v1374
  let c0_936 : Index := 0#32
  ![2, v1375.toNat, 0]
def k0_mult46 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_933 : BitVec 32 := 4#32
  let v1373 : BitVec 32 := Scalar.muli arg13 c4_i32_933
  let c0_i32_934 : BitVec 32 := 0#32
  let v1374 : BitVec 32 := Scalar.addi v1373 c0_i32_934
  let c32_i32 : BitVec 32 := 32#32
  let v1381 : BitVec 32 := Scalar.muli v1374 c32_i32
  v1381
def k0_off31 (k0_t6 : Fin k0_t6_loop.trips) (c0_i32_934 : BitVec 32) : Fin 3 → Nat :=
  let c2_937 : Index := 2#32
  let c0_i32_471 : BitVec 32 := 0#32
  let c1_i32_473 : BitVec 32 := 1#32
  let arg13 : BitVec 32 := Scf.iv c0_i32_471 c1_i32_473 k0_t6
  let c4_i32_933 : BitVec 32 := 4#32
  let v1373 : BitVec 32 := Scalar.muli arg13 c4_i32_933
  let v1374 : BitVec 32 := Scalar.addi v1373 c0_i32_934
  let c32_i32 : BitVec 32 := 32#32
  let v1381 : BitVec 32 := Scalar.muli v1374 c32_i32
  let v1382 : BitVec 32 := v1381
  let v1383 : Index := Scalar.indexCast v1382
  let c0_938 : Index := 0#32
  ![2, v1383.toNat, 0]
def k0_mult47 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_952 : BitVec 32 := 4#32
  let v1453 : BitVec 32 := Scalar.muli arg13 c4_i32_952
  let c1_i32_953 : BitVec 32 := 1#32
  let v1454 : BitVec 32 := Scalar.addi v1453 c1_i32_953
  let c32_i32_956 : BitVec 32 := 32#32
  let v1461 : BitVec 32 := Scalar.muli v1454 c32_i32_956
  v1461
def k0_mult48 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_974 : BitVec 32 := 4#32
  let v1533 : BitVec 32 := Scalar.muli arg13 c4_i32_974
  let c2_i32_975 : BitVec 32 := 2#32
  let v1534 : BitVec 32 := Scalar.addi v1533 c2_i32_975
  let c32_i32_978 : BitVec 32 := 32#32
  let v1541 : BitVec 32 := Scalar.muli v1534 c32_i32_978
  v1541
def k0_mult49 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_996 : BitVec 32 := 4#32
  let v1613 : BitVec 32 := Scalar.muli arg13 c4_i32_996
  let c3_i32_997 : BitVec 32 := 3#32
  let v1614 : BitVec 32 := Scalar.addi v1613 c3_i32_997
  let c32_i32_1000 : BitVec 32 := 32#32
  let v1621 : BitVec 32 := Scalar.muli v1614 c32_i32_1000
  v1621
def k0_off32 (k0_t6 : Fin k0_t6_loop.trips) (c0_i32_1019 : BitVec 32) : Fin 3 → Nat :=
  let c3_1020 : Index := 3#32
  let c0_i32_471 : BitVec 32 := 0#32
  let c1_i32_473 : BitVec 32 := 1#32
  let arg13 : BitVec 32 := Scf.iv c0_i32_471 c1_i32_473 k0_t6
  let c4_i32_1018 : BitVec 32 := 4#32
  let v1694 : BitVec 32 := Scalar.muli arg13 c4_i32_1018
  let v1695 : BitVec 32 := Scalar.addi v1694 c0_i32_1019
  let v1696 : Index := Scalar.indexCast v1695
  let c0_1021 : Index := 0#32
  ![3, v1696.toNat, 0]
def k0_mult50 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_1018 : BitVec 32 := 4#32
  let v1694 : BitVec 32 := Scalar.muli arg13 c4_i32_1018
  let c0_i32_1019 : BitVec 32 := 0#32
  let v1695 : BitVec 32 := Scalar.addi v1694 c0_i32_1019
  let c32_i32_1022 : BitVec 32 := 32#32
  let v1702 : BitVec 32 := Scalar.muli v1695 c32_i32_1022
  v1702
def k0_off33 (k0_t6 : Fin k0_t6_loop.trips) (c0_i32_1019 : BitVec 32) : Fin 3 → Nat :=
  let c3_1023 : Index := 3#32
  let c0_i32_471 : BitVec 32 := 0#32
  let c1_i32_473 : BitVec 32 := 1#32
  let arg13 : BitVec 32 := Scf.iv c0_i32_471 c1_i32_473 k0_t6
  let c4_i32_1018 : BitVec 32 := 4#32
  let v1694 : BitVec 32 := Scalar.muli arg13 c4_i32_1018
  let v1695 : BitVec 32 := Scalar.addi v1694 c0_i32_1019
  let c32_i32_1022 : BitVec 32 := 32#32
  let v1702 : BitVec 32 := Scalar.muli v1695 c32_i32_1022
  let v1703 : BitVec 32 := v1702
  let v1704 : Index := Scalar.indexCast v1703
  let c0_1024 : Index := 0#32
  ![3, v1704.toNat, 0]
def k0_mult51 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_1040 : BitVec 32 := 4#32
  let v1774 : BitVec 32 := Scalar.muli arg13 c4_i32_1040
  let c1_i32_1041 : BitVec 32 := 1#32
  let v1775 : BitVec 32 := Scalar.addi v1774 c1_i32_1041
  let c32_i32_1044 : BitVec 32 := 32#32
  let v1782 : BitVec 32 := Scalar.muli v1775 c32_i32_1044
  v1782
def k0_mult52 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_1062 : BitVec 32 := 4#32
  let v1854 : BitVec 32 := Scalar.muli arg13 c4_i32_1062
  let c2_i32_1063 : BitVec 32 := 2#32
  let v1855 : BitVec 32 := Scalar.addi v1854 c2_i32_1063
  let c32_i32_1066 : BitVec 32 := 32#32
  let v1862 : BitVec 32 := Scalar.muli v1855 c32_i32_1066
  v1862
def k0_mult53 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c4_i32_1084 : BitVec 32 := 4#32
  let v1934 : BitVec 32 := Scalar.muli arg13 c4_i32_1084
  let c3_i32_1085 : BitVec 32 := 3#32
  let v1935 : BitVec 32 := Scalar.addi v1934 c3_i32_1085
  let c32_i32_1088 : BitVec 32 := 32#32
  let v1942 : BitVec 32 := Scalar.muli v1935 c32_i32_1088
  v1942
def k0_mult54 (k0_t6 : Fin k0_t6_loop.trips) : BitVec 32 :=
  let c0_i32_471 : BitVec 32 := 0#32
  let c1_i32_473 : BitVec 32 := 1#32
  let arg13 : BitVec 32 := Scf.iv c0_i32_471 c1_i32_473 k0_t6
  let c256_i32_1106 : BitVec 32 := 256#32
  let v2016 : BitVec 32 := Scalar.muli arg13 c256_i32_1106
  v2016
def k0_off34 (k0_t6 : Fin k0_t6_loop.trips) : Fin 2 → Nat :=
  let c0_1107 : Index := 0#32
  let c0_i32_471 : BitVec 32 := 0#32
  let c1_i32_473 : BitVec 32 := 1#32
  let arg13 : BitVec 32 := Scf.iv c0_i32_471 c1_i32_473 k0_t6
  let c256_i32_1106 : BitVec 32 := 256#32
  let v2016 : BitVec 32 := Scalar.muli arg13 c256_i32_1106
  let v2017 : BitVec 32 := v2016
  let v2018 : Index := Scalar.indexCast v2017
  ![0, v2018.toNat]
def k0_cond3 (i : grid0.Coords) : BitVec 1 :=
  let arg0 : BitVec 32 := BitVec.ofNat 32 (i 0).val
  let c36_i32_3 : BitVec 32 := 36#32
  let v8 : BitVec 1 := Scalar.cmpi .eq arg0 c36_i32_3
  let v9 : BitVec 32 := Scalar.extui v8
  let c0_i32_4 : BitVec 32 := 0#32
  let v10 : BitVec 1 := Scalar.cmpi .ne v9 c0_i32_4
  v10

@[reducible] def k0_t7_loop : Scf.Loop 32 :=
  let c0_i32_10 : BitVec 32 := 0#32
  let c18_i32 : BitVec 32 := 18#32
  let v46 : BitVec 32 := Scalar.addi c0_i32_10 c18_i32
  let c1_i32_11 : BitVec 32 := 1#32
  ⟨c0_i32_10, v46, c1_i32_11⟩
def k0_off35 (k0_t7 : Fin k0_t7_loop.trips) (c0_i32_22 : BitVec 32) : Fin 3 → Nat :=
  let c0_23 : Index := 0#32
  let c0_i32_10 : BitVec 32 := 0#32
  let c1_i32_11 : BitVec 32 := 1#32
  let arg13 : BitVec 32 := Scf.iv c0_i32_10 c1_i32_11 k0_t7
  let c4_i32 : BitVec 32 := 4#32
  let v56 : BitVec 32 := Scalar.muli arg13 c4_i32
  let v57 : BitVec 32 := Scalar.addi v56 c0_i32_22
  let v58 : Index := Scalar.indexCast v57
  let c0_24 : Index := 0#32
  ![0, v58.toNat, 0]
def k0_mult55 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32 : BitVec 32 := 4#32
  let v56 : BitVec 32 := Scalar.muli arg13 c4_i32
  let c0_i32_22 : BitVec 32 := 0#32
  let v57 : BitVec 32 := Scalar.addi v56 c0_i32_22
  let c32_i32 : BitVec 32 := 32#32
  let v64 : BitVec 32 := Scalar.muli v57 c32_i32
  v64
def k0_off36 (k0_t7 : Fin k0_t7_loop.trips) (c0_i32_22 : BitVec 32) : Fin 3 → Nat :=
  let c0_25 : Index := 0#32
  let c0_i32_10 : BitVec 32 := 0#32
  let c1_i32_11 : BitVec 32 := 1#32
  let arg13 : BitVec 32 := Scf.iv c0_i32_10 c1_i32_11 k0_t7
  let c4_i32 : BitVec 32 := 4#32
  let v56 : BitVec 32 := Scalar.muli arg13 c4_i32
  let v57 : BitVec 32 := Scalar.addi v56 c0_i32_22
  let c32_i32 : BitVec 32 := 32#32
  let v64 : BitVec 32 := Scalar.muli v57 c32_i32
  let v65 : BitVec 32 := v64
  let v66 : Index := Scalar.indexCast v65
  let c0_26 : Index := 0#32
  ![0, v66.toNat, 0]
def k0_mult56 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_39 : BitVec 32 := 4#32
  let v136 : BitVec 32 := Scalar.muli arg13 c4_i32_39
  let c1_i32_40 : BitVec 32 := 1#32
  let v137 : BitVec 32 := Scalar.addi v136 c1_i32_40
  let c32_i32_43 : BitVec 32 := 32#32
  let v144 : BitVec 32 := Scalar.muli v137 c32_i32_43
  v144
def k0_mult57 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_61 : BitVec 32 := 4#32
  let v216 : BitVec 32 := Scalar.muli arg13 c4_i32_61
  let c2_i32_62 : BitVec 32 := 2#32
  let v217 : BitVec 32 := Scalar.addi v216 c2_i32_62
  let c32_i32_65 : BitVec 32 := 32#32
  let v224 : BitVec 32 := Scalar.muli v217 c32_i32_65
  v224
def k0_mult58 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_83 : BitVec 32 := 4#32
  let v296 : BitVec 32 := Scalar.muli arg13 c4_i32_83
  let c3_i32_84 : BitVec 32 := 3#32
  let v297 : BitVec 32 := Scalar.addi v296 c3_i32_84
  let c32_i32_87 : BitVec 32 := 32#32
  let v304 : BitVec 32 := Scalar.muli v297 c32_i32_87
  v304
def k0_off37 (k0_t7 : Fin k0_t7_loop.trips) (c0_i32_106 : BitVec 32) : Fin 3 → Nat :=
  let c1 : Index := 1#32
  let c0_i32_10 : BitVec 32 := 0#32
  let c1_i32_11 : BitVec 32 := 1#32
  let arg13 : BitVec 32 := Scf.iv c0_i32_10 c1_i32_11 k0_t7
  let c4_i32_105 : BitVec 32 := 4#32
  let v377 : BitVec 32 := Scalar.muli arg13 c4_i32_105
  let v378 : BitVec 32 := Scalar.addi v377 c0_i32_106
  let v379 : Index := Scalar.indexCast v378
  let c0_107 : Index := 0#32
  ![1, v379.toNat, 0]
def k0_mult59 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_105 : BitVec 32 := 4#32
  let v377 : BitVec 32 := Scalar.muli arg13 c4_i32_105
  let c0_i32_106 : BitVec 32 := 0#32
  let v378 : BitVec 32 := Scalar.addi v377 c0_i32_106
  let c32_i32_108 : BitVec 32 := 32#32
  let v385 : BitVec 32 := Scalar.muli v378 c32_i32_108
  v385
def k0_off38 (k0_t7 : Fin k0_t7_loop.trips) (c0_i32_106 : BitVec 32) : Fin 3 → Nat :=
  let c1_109 : Index := 1#32
  let c0_i32_10 : BitVec 32 := 0#32
  let c1_i32_11 : BitVec 32 := 1#32
  let arg13 : BitVec 32 := Scf.iv c0_i32_10 c1_i32_11 k0_t7
  let c4_i32_105 : BitVec 32 := 4#32
  let v377 : BitVec 32 := Scalar.muli arg13 c4_i32_105
  let v378 : BitVec 32 := Scalar.addi v377 c0_i32_106
  let c32_i32_108 : BitVec 32 := 32#32
  let v385 : BitVec 32 := Scalar.muli v378 c32_i32_108
  let v386 : BitVec 32 := v385
  let v387 : Index := Scalar.indexCast v386
  let c0_110 : Index := 0#32
  ![1, v387.toNat, 0]
def k0_mult60 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_126 : BitVec 32 := 4#32
  let v457 : BitVec 32 := Scalar.muli arg13 c4_i32_126
  let c1_i32_127 : BitVec 32 := 1#32
  let v458 : BitVec 32 := Scalar.addi v457 c1_i32_127
  let c32_i32_130 : BitVec 32 := 32#32
  let v465 : BitVec 32 := Scalar.muli v458 c32_i32_130
  v465
def k0_mult61 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_148 : BitVec 32 := 4#32
  let v537 : BitVec 32 := Scalar.muli arg13 c4_i32_148
  let c2_i32_149 : BitVec 32 := 2#32
  let v538 : BitVec 32 := Scalar.addi v537 c2_i32_149
  let c32_i32_152 : BitVec 32 := 32#32
  let v545 : BitVec 32 := Scalar.muli v538 c32_i32_152
  v545
def k0_mult62 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c4_i32_170 : BitVec 32 := 4#32
  let v617 : BitVec 32 := Scalar.muli arg13 c4_i32_170
  let c3_i32_171 : BitVec 32 := 3#32
  let v618 : BitVec 32 := Scalar.addi v617 c3_i32_171
  let c32_i32_174 : BitVec 32 := 32#32
  let v625 : BitVec 32 := Scalar.muli v618 c32_i32_174
  v625
def k0_mult63 (k0_t7 : Fin k0_t7_loop.trips) : BitVec 32 :=
  let c0_i32_10 : BitVec 32 := 0#32
  let c1_i32_11 : BitVec 32 := 1#32
  let arg13 : BitVec 32 := Scf.iv c0_i32_10 c1_i32_11 k0_t7
  let c256_i32 : BitVec 32 := 256#32
  let v699 : BitVec 32 := Scalar.muli arg13 c256_i32
  v699
def k0_off39 (k0_t7 : Fin k0_t7_loop.trips) : Fin 2 → Nat :=
  let c0_192 : Index := 0#32
  let c0_i32_10 : BitVec 32 := 0#32
  let c1_i32_11 : BitVec 32 := 1#32
  let arg13 : BitVec 32 := Scf.iv c0_i32_10 c1_i32_11 k0_t7
  let c256_i32 : BitVec 32 := 256#32
  let v699 : BitVec 32 := Scalar.muli arg13 c256_i32
  let v700 : BitVec 32 := v699
  let v701 : Index := Scalar.indexCast v700
  ![0, v701.toNat]
@[reducible] def k0_t8_loop : Scf.Loop 32 :=
  let c0_i32_14 : BitVec 32 := 0#32
  let c18_i32_15 : BitVec 32 := 18#32
  let v49 : BitVec 32 := Scalar.addi c0_i32_14 c18_i32_15
  let c1_i32_16 : BitVec 32 := 1#32
  ⟨c0_i32_14, v49, c1_i32_16⟩
def k0_off40 (k0_t8 : Fin k0_t8_loop.trips) (c0_i32_22 : BitVec 32) : Fin 3 → Nat :=
  let c2 : Index := 2#32
  let c0_i32_14 : BitVec 32 := 0#32
  let c1_i32_16 : BitVec 32 := 1#32
  let arg13 : BitVec 32 := Scf.iv c0_i32_14 c1_i32_16 k0_t8
  let c4_i32 : BitVec 32 := 4#32
  let v56 : BitVec 32 := Scalar.muli arg13 c4_i32
  let v57 : BitVec 32 := Scalar.addi v56 c0_i32_22
  let v58 : Index := Scalar.indexCast v57
  let c0_23 : Index := 0#32
  ![2, v58.toNat, 0]
def k0_mult64 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32 : BitVec 32 := 4#32
  let v56 : BitVec 32 := Scalar.muli arg13 c4_i32
  let c0_i32_22 : BitVec 32 := 0#32
  let v57 : BitVec 32 := Scalar.addi v56 c0_i32_22
  let c32_i32 : BitVec 32 := 32#32
  let v64 : BitVec 32 := Scalar.muli v57 c32_i32
  v64
def k0_off41 (k0_t8 : Fin k0_t8_loop.trips) (c0_i32_22 : BitVec 32) : Fin 3 → Nat :=
  let c2_24 : Index := 2#32
  let c0_i32_14 : BitVec 32 := 0#32
  let c1_i32_16 : BitVec 32 := 1#32
  let arg13 : BitVec 32 := Scf.iv c0_i32_14 c1_i32_16 k0_t8
  let c4_i32 : BitVec 32 := 4#32
  let v56 : BitVec 32 := Scalar.muli arg13 c4_i32
  let v57 : BitVec 32 := Scalar.addi v56 c0_i32_22
  let c32_i32 : BitVec 32 := 32#32
  let v64 : BitVec 32 := Scalar.muli v57 c32_i32
  let v65 : BitVec 32 := v64
  let v66 : Index := Scalar.indexCast v65
  let c0_25 : Index := 0#32
  ![2, v66.toNat, 0]
def k0_mult65 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_38 : BitVec 32 := 4#32
  let v136 : BitVec 32 := Scalar.muli arg13 c4_i32_38
  let c1_i32_39 : BitVec 32 := 1#32
  let v137 : BitVec 32 := Scalar.addi v136 c1_i32_39
  let c32_i32_42 : BitVec 32 := 32#32
  let v144 : BitVec 32 := Scalar.muli v137 c32_i32_42
  v144
def k0_mult66 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_60 : BitVec 32 := 4#32
  let v216 : BitVec 32 := Scalar.muli arg13 c4_i32_60
  let c2_i32_61 : BitVec 32 := 2#32
  let v217 : BitVec 32 := Scalar.addi v216 c2_i32_61
  let c32_i32_64 : BitVec 32 := 32#32
  let v224 : BitVec 32 := Scalar.muli v217 c32_i32_64
  v224
def k0_mult67 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_82 : BitVec 32 := 4#32
  let v296 : BitVec 32 := Scalar.muli arg13 c4_i32_82
  let c3_i32_83 : BitVec 32 := 3#32
  let v297 : BitVec 32 := Scalar.addi v296 c3_i32_83
  let c32_i32_86 : BitVec 32 := 32#32
  let v304 : BitVec 32 := Scalar.muli v297 c32_i32_86
  v304
def k0_off42 (k0_t8 : Fin k0_t8_loop.trips) (c0_i32_105 : BitVec 32) : Fin 3 → Nat :=
  let c3 : Index := 3#32
  let c0_i32_14 : BitVec 32 := 0#32
  let c1_i32_16 : BitVec 32 := 1#32
  let arg13 : BitVec 32 := Scf.iv c0_i32_14 c1_i32_16 k0_t8
  let c4_i32_104 : BitVec 32 := 4#32
  let v377 : BitVec 32 := Scalar.muli arg13 c4_i32_104
  let v378 : BitVec 32 := Scalar.addi v377 c0_i32_105
  let v379 : Index := Scalar.indexCast v378
  let c0_106 : Index := 0#32
  ![3, v379.toNat, 0]
def k0_mult68 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_104 : BitVec 32 := 4#32
  let v377 : BitVec 32 := Scalar.muli arg13 c4_i32_104
  let c0_i32_105 : BitVec 32 := 0#32
  let v378 : BitVec 32 := Scalar.addi v377 c0_i32_105
  let c32_i32_107 : BitVec 32 := 32#32
  let v385 : BitVec 32 := Scalar.muli v378 c32_i32_107
  v385
def k0_off43 (k0_t8 : Fin k0_t8_loop.trips) (c0_i32_105 : BitVec 32) : Fin 3 → Nat :=
  let c3_108 : Index := 3#32
  let c0_i32_14 : BitVec 32 := 0#32
  let c1_i32_16 : BitVec 32 := 1#32
  let arg13 : BitVec 32 := Scf.iv c0_i32_14 c1_i32_16 k0_t8
  let c4_i32_104 : BitVec 32 := 4#32
  let v377 : BitVec 32 := Scalar.muli arg13 c4_i32_104
  let v378 : BitVec 32 := Scalar.addi v377 c0_i32_105
  let c32_i32_107 : BitVec 32 := 32#32
  let v385 : BitVec 32 := Scalar.muli v378 c32_i32_107
  let v386 : BitVec 32 := v385
  let v387 : Index := Scalar.indexCast v386
  let c0_109 : Index := 0#32
  ![3, v387.toNat, 0]
def k0_mult69 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_125 : BitVec 32 := 4#32
  let v457 : BitVec 32 := Scalar.muli arg13 c4_i32_125
  let c1_i32_126 : BitVec 32 := 1#32
  let v458 : BitVec 32 := Scalar.addi v457 c1_i32_126
  let c32_i32_129 : BitVec 32 := 32#32
  let v465 : BitVec 32 := Scalar.muli v458 c32_i32_129
  v465
def k0_mult70 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_147 : BitVec 32 := 4#32
  let v537 : BitVec 32 := Scalar.muli arg13 c4_i32_147
  let c2_i32_148 : BitVec 32 := 2#32
  let v538 : BitVec 32 := Scalar.addi v537 c2_i32_148
  let c32_i32_151 : BitVec 32 := 32#32
  let v545 : BitVec 32 := Scalar.muli v538 c32_i32_151
  v545
def k0_mult71 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c4_i32_169 : BitVec 32 := 4#32
  let v617 : BitVec 32 := Scalar.muli arg13 c4_i32_169
  let c3_i32_170 : BitVec 32 := 3#32
  let v618 : BitVec 32 := Scalar.addi v617 c3_i32_170
  let c32_i32_173 : BitVec 32 := 32#32
  let v625 : BitVec 32 := Scalar.muli v618 c32_i32_173
  v625
def k0_mult72 (k0_t8 : Fin k0_t8_loop.trips) : BitVec 32 :=
  let c0_i32_14 : BitVec 32 := 0#32
  let c1_i32_16 : BitVec 32 := 1#32
  let arg13 : BitVec 32 := Scf.iv c0_i32_14 c1_i32_16 k0_t8
  let c256_i32 : BitVec 32 := 256#32
  let v699 : BitVec 32 := Scalar.muli arg13 c256_i32
  v699
def k0_off44 (k0_t8 : Fin k0_t8_loop.trips) : Fin 2 → Nat :=
  let c0_191 : Index := 0#32
  let c0_i32_14 : BitVec 32 := 0#32
  let c1_i32_16 : BitVec 32 := 1#32
  let arg13 : BitVec 32 := Scf.iv c0_i32_14 c1_i32_16 k0_t8
  let c256_i32 : BitVec 32 := 256#32
  let v699 : BitVec 32 := Scalar.muli arg13 c256_i32
  let v700 : BitVec 32 := v699
  let v701 : Index := Scalar.indexCast v700
  ![0, v701.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S72x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S81x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x4608 : Shape := ⟨3, ![16, 1, 4608]⟩
abbrev S36864x2304 : Shape := ⟨2, ![36864, 2304]⟩
abbrev S36864x72 : Shape := ⟨2, ![36864, 72]⟩
abbrev S10368 : Shape := ⟨1, ![10368]⟩
abbrev S_ : Shape := ⟨0, ![]⟩
abbrev S10368x256 : Shape := ⟨2, ![10368, 256]⟩
abbrev S10368x1 : Shape := ⟨2, ![10368, 1]⟩
abbrev S36864x72x32 : Shape := ⟨3, ![36864, 72, 32]⟩
abbrev S36864x72x1 : Shape := ⟨3, ![36864, 72, 1]⟩
abbrev S16x1x2304 : Shape := ⟨3, ![16, 1, 2304]⟩
abbrev S16x1x36864 : Shape := ⟨3, ![16, 1, 36864]⟩
abbrev S16x36864 : Shape := ⟨2, ![16, 36864]⟩

abbrev nBuf : Space → Nat
  | .hbm => 181
  | .vmem => 0
  | .smem => 0
  | _ => 0

abbrev hbmTy0_0 (i : Nat) : BufTy := match i % 128 with
  | 0 => ⟨S16x1x4608, .bf16⟩
  | 1 => ⟨S36864x2304, .i8⟩
  | 2 => ⟨S36864x72, .i8⟩
  | 3 => ⟨S10368, .f32⟩
  | 4 => ⟨S_, .f32⟩
  | 5 => ⟨S36864x72, .i32⟩
  | 6 => ⟨S36864x72, .f32⟩
  | 7 => ⟨S10368x256, .f32⟩
  | 8 => ⟨S10368x1, .f32⟩
  | 9 => ⟨S10368x256, .f32⟩
  | 10 => ⟨S10368x256, .f32⟩
  | 11 => ⟨S10368x256, .f32⟩
  | 12 => ⟨S10368x256, .f32⟩
  | 13 => ⟨S36864x72, .f32⟩
  | 14 => ⟨S36864x72, .bf16⟩
  | 15 => ⟨S36864x2304, .i32⟩
  | 16 => ⟨S_, .i32⟩
  | 17 => ⟨S36864x2304, .i32⟩
  | 18 => ⟨S36864x2304, .i32⟩
  | 19 => ⟨S_, .i32⟩
  | 20 => ⟨S36864x2304, .i32⟩
  | 21 => ⟨S36864x2304, .i32⟩
  | 22 => ⟨S_, .bf16⟩
  | 23 => ⟨S36864x2304, .bf16⟩
  | 24 => ⟨S_, .bf16⟩
  | 25 => ⟨S36864x2304, .bf16⟩
  | 26 => ⟨S_, .bf16⟩
  | 27 => ⟨S36864x2304, .bf16⟩
  | 28 => ⟨S_, .bf16⟩
  | 29 => ⟨S36864x2304, .bf16⟩
  | 30 => ⟨S_, .bf16⟩
  | 31 => ⟨S36864x2304, .bf16⟩
  | 32 => ⟨S_, .bf16⟩
  | 33 => ⟨S36864x2304, .bf16⟩
  | 34 => ⟨S_, .bf16⟩
  | 35 => ⟨S36864x2304, .bf16⟩
  | 36 => ⟨S_, .bf16⟩
  | 37 => ⟨S36864x2304, .bf16⟩
  | 38 => ⟨S_, .bf16⟩
  | 39 => ⟨S36864x2304, .bf16⟩
  | 40 => ⟨S_, .bf16⟩
  | 41 => ⟨S36864x2304, .bf16⟩
  | 42 => ⟨S_, .bf16⟩
  | 43 => ⟨S36864x2304, .bf16⟩
  | 44 => ⟨S_, .bf16⟩
  | 45 => ⟨S36864x2304, .bf16⟩
  | 46 => ⟨S_, .bf16⟩
  | 47 => ⟨S36864x2304, .bf16⟩
  | 48 => ⟨S_, .bf16⟩
  | 49 => ⟨S36864x2304, .bf16⟩
  | 50 => ⟨S_, .bf16⟩
  | 51 => ⟨S36864x2304, .bf16⟩
  | 52 => ⟨S_, .bf16⟩
  | 53 => ⟨S36864x2304, .bf16⟩
  | 54 => ⟨S_, .i32⟩
  | 55 => ⟨S36864x2304, .i32⟩
  | 56 => ⟨S36864x2304, .i32⟩
  | 57 => ⟨S_, .i32⟩
  | 58 => ⟨S36864x2304, .i32⟩
  | 59 => ⟨S36864x2304, .i1⟩
  | 60 => ⟨S36864x2304, .bf16⟩
  | 61 => ⟨S36864x2304, .bf16⟩
  | 62 => ⟨S36864x2304, .bf16⟩
  | 63 => ⟨S36864x2304, .bf16⟩
  | 64 => ⟨S36864x2304, .bf16⟩
  | 65 => ⟨S36864x2304, .bf16⟩
  | 66 => ⟨S36864x2304, .bf16⟩
  | 67 => ⟨S36864x2304, .bf16⟩
  | 68 => ⟨S_, .i32⟩
  | 69 => ⟨S36864x2304, .i32⟩
  | 70 => ⟨S36864x2304, .i32⟩
  | 71 => ⟨S_, .i32⟩
  | 72 => ⟨S36864x2304, .i32⟩
  | 73 => ⟨S36864x2304, .i1⟩
  | 74 => ⟨S36864x2304, .bf16⟩
  | 75 => ⟨S36864x2304, .bf16⟩
  | 76 => ⟨S36864x2304, .bf16⟩
  | 77 => ⟨S36864x2304, .bf16⟩
  | 78 => ⟨S_, .i32⟩
  | 79 => ⟨S36864x2304, .i32⟩
  | 80 => ⟨S36864x2304, .i32⟩
  | 81 => ⟨S_, .i32⟩
  | 82 => ⟨S36864x2304, .i32⟩
  | 83 => ⟨S36864x2304, .i1⟩
  | 84 => ⟨S36864x2304, .bf16⟩
  | 85 => ⟨S36864x2304, .bf16⟩
  | 86 => ⟨S_, .i32⟩
  | 87 => ⟨S36864x2304, .i32⟩
  | 88 => ⟨S36864x2304, .i32⟩
  | 89 => ⟨S_, .i32⟩
  | 90 => ⟨S36864x2304, .i32⟩
  | 91 => ⟨S36864x2304, .i1⟩
  | 92 => ⟨S36864x2304, .bf16⟩
  | 93 => ⟨S36864x72x32, .bf16⟩
  | 94 => ⟨S36864x72x1, .bf16⟩
  | 95 => ⟨S36864x72x32, .bf16⟩
  | 96 => ⟨S36864x72x32, .bf16⟩
  | 97 => ⟨S36864x2304, .bf16⟩
  | 98 => ⟨S_, .bf16⟩
  | 99 => ⟨S36864x2304, .bf16⟩
  | 100 => ⟨S_, .bf16⟩
  | 101 => ⟨S36864x2304, .bf16⟩
  | 102 => ⟨S_, .bf16⟩
  | 103 => ⟨S36864x2304, .bf16⟩
  | 104 => ⟨S_, .bf16⟩
  | 105 => ⟨S36864x2304, .bf16⟩
  | 106 => ⟨S_, .bf16⟩
  | 107 => ⟨S36864x2304, .bf16⟩
  | 108 => ⟨S_, .bf16⟩
  | 109 => ⟨S36864x2304, .bf16⟩
  | 110 => ⟨S_, .bf16⟩
  | 111 => ⟨S36864x2304, .bf16⟩
  | 112 => ⟨S_, .bf16⟩
  | 113 => ⟨S36864x2304, .bf16⟩
  | 114 => ⟨S_, .bf16⟩
  | 115 => ⟨S36864x2304, .bf16⟩
  | 116 => ⟨S_, .bf16⟩
  | 117 => ⟨S36864x2304, .bf16⟩
  | 118 => ⟨S_, .bf16⟩
  | 119 => ⟨S36864x2304, .bf16⟩
  | 120 => ⟨S_, .bf16⟩
  | 121 => ⟨S36864x2304, .bf16⟩
  | 122 => ⟨S_, .bf16⟩
  | 123 => ⟨S36864x2304, .bf16⟩
  | 124 => ⟨S_, .bf16⟩
  | 125 => ⟨S36864x2304, .bf16⟩
  | 126 => ⟨S_, .bf16⟩
  | 127 => ⟨S36864x2304, .bf16⟩
  | _ => ⟨S16x1x4608, .bf16⟩

abbrev hbmTy0_1 (i : Nat) : BufTy := match i % 128 with
  | 0 => ⟨S_, .bf16⟩
  | 1 => ⟨S36864x2304, .bf16⟩
  | 2 => ⟨S_, .i32⟩
  | 3 => ⟨S36864x2304, .i32⟩
  | 4 => ⟨S36864x2304, .i32⟩
  | 5 => ⟨S_, .i32⟩
  | 6 => ⟨S36864x2304, .i32⟩
  | 7 => ⟨S36864x2304, .i1⟩
  | 8 => ⟨S36864x2304, .bf16⟩
  | 9 => ⟨S36864x2304, .bf16⟩
  | 10 => ⟨S36864x2304, .bf16⟩
  | 11 => ⟨S36864x2304, .bf16⟩
  | 12 => ⟨S36864x2304, .bf16⟩
  | 13 => ⟨S36864x2304, .bf16⟩
  | 14 => ⟨S36864x2304, .bf16⟩
  | 15 => ⟨S36864x2304, .bf16⟩
  | 16 => ⟨S_, .i32⟩
  | 17 => ⟨S36864x2304, .i32⟩
  | 18 => ⟨S36864x2304, .i32⟩
  | 19 => ⟨S_, .i32⟩
  | 20 => ⟨S36864x2304, .i32⟩
  | 21 => ⟨S36864x2304, .i1⟩
  | 22 => ⟨S36864x2304, .bf16⟩
  | 23 => ⟨S36864x2304, .bf16⟩
  | 24 => ⟨S36864x2304, .bf16⟩
  | 25 => ⟨S36864x2304, .bf16⟩
  | 26 => ⟨S_, .i32⟩
  | 27 => ⟨S36864x2304, .i32⟩
  | 28 => ⟨S36864x2304, .i32⟩
  | 29 => ⟨S_, .i32⟩
  | 30 => ⟨S36864x2304, .i32⟩
  | 31 => ⟨S36864x2304, .i1⟩
  | 32 => ⟨S36864x2304, .bf16⟩
  | 33 => ⟨S36864x2304, .bf16⟩
  | 34 => ⟨S_, .i32⟩
  | 35 => ⟨S36864x2304, .i32⟩
  | 36 => ⟨S36864x2304, .i32⟩
  | 37 => ⟨S_, .i32⟩
  | 38 => ⟨S36864x2304, .i32⟩
  | 39 => ⟨S36864x2304, .i1⟩
  | 40 => ⟨S36864x2304, .bf16⟩
  | 41 => ⟨S36864x72x32, .bf16⟩
  | 42 => ⟨S36864x72x1, .bf16⟩
  | 43 => ⟨S36864x72x32, .bf16⟩
  | 44 => ⟨S36864x72x32, .bf16⟩
  | 45 => ⟨S36864x2304, .bf16⟩
  | 46 => ⟨S16x1x2304, .bf16⟩
  | 47 => ⟨S16x1x36864, .f32⟩
  | 48 => ⟨S16x1x2304, .bf16⟩
  | 49 => ⟨S16x1x36864, .f32⟩
  | 50 => ⟨S16x1x36864, .f32⟩
  | 51 => ⟨S16x1x36864, .bf16⟩
  | 52 => ⟨S16x36864, .bf16⟩
  | _ => ⟨S16x1x4608, .bf16⟩

abbrev hbmTy (i : Nat) : BufTy := match i / 128 with
  | 0 => hbmTy0_0 i
  | 1 => hbmTy0_1 i
  | _ => ⟨S16x1x4608, .bf16⟩

abbrev bufTy : (tb : Table) → Fin (tcTables nBuf tb) → BufTy
  | .hbm, ⟨i, _⟩ => hbmTy i
  | _, _ => ⟨S16x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev main_cst_12 : Ref sig .tc := ⟨.hbm, 46, rfl⟩
abbrev main_v27 : Ref sig .tc := ⟨.hbm, 47, rfl⟩
abbrev main_cst_13 : Ref sig .tc := ⟨.hbm, 48, rfl⟩
abbrev main_v28 : Ref sig .tc := ⟨.hbm, 49, rfl⟩
abbrev main_cst_14 : Ref sig .tc := ⟨.hbm, 50, rfl⟩
abbrev main_v29 : Ref sig .tc := ⟨.hbm, 51, rfl⟩
abbrev main_cst_15 : Ref sig .tc := ⟨.hbm, 52, rfl⟩
abbrev main_v30 : Ref sig .tc := ⟨.hbm, 53, rfl⟩
abbrev main_c_16 : Ref sig .tc := ⟨.hbm, 54, rfl⟩
abbrev main_v31 : Ref sig .tc := ⟨.hbm, 55, rfl⟩
abbrev main_v32 : Ref sig .tc := ⟨.hbm, 56, rfl⟩
abbrev main_c_17 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_18 : Ref sig .tc := ⟨.hbm, 68, rfl⟩
abbrev main_v43 : Ref sig .tc := ⟨.hbm, 69, rfl⟩
abbrev main_v44 : Ref sig .tc := ⟨.hbm, 70, rfl⟩
abbrev main_c_19 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_20 : Ref sig .tc := ⟨.hbm, 78, rfl⟩
abbrev main_v51 : Ref sig .tc := ⟨.hbm, 79, rfl⟩
abbrev main_v52 : Ref sig .tc := ⟨.hbm, 80, rfl⟩
abbrev main_c_21 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_22 : Ref sig .tc := ⟨.hbm, 86, rfl⟩
abbrev main_v57 : Ref sig .tc := ⟨.hbm, 87, rfl⟩
abbrev main_v58 : Ref sig .tc := ⟨.hbm, 88, rfl⟩
abbrev main_c_23 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_24 : Ref sig .tc := ⟨.hbm, 98, rfl⟩
abbrev main_v67 : Ref sig .tc := ⟨.hbm, 99, rfl⟩
abbrev main_cst_25 : Ref sig .tc := ⟨.hbm, 100, rfl⟩
abbrev main_v68 : Ref sig .tc := ⟨.hbm, 101, rfl⟩
abbrev main_cst_26 : Ref sig .tc := ⟨.hbm, 102, rfl⟩
abbrev main_v69 : Ref sig .tc := ⟨.hbm, 103, rfl⟩
abbrev main_cst_27 : Ref sig .tc := ⟨.hbm, 104, rfl⟩
abbrev main_v70 : Ref sig .tc := ⟨.hbm, 105, rfl⟩
abbrev main_cst_28 : Ref sig .tc := ⟨.hbm, 106, rfl⟩
abbrev main_v71 : Ref sig .tc := ⟨.hbm, 107, rfl⟩
abbrev main_cst_29 : Ref sig .tc := ⟨.hbm, 108, rfl⟩
abbrev main_v72 : Ref sig .tc := ⟨.hbm, 109, rfl⟩
abbrev main_cst_30 : Ref sig .tc := ⟨.hbm, 110, rfl⟩
abbrev main_v73 : Ref sig .tc := ⟨.hbm, 111, rfl⟩
abbrev main_cst_31 : Ref sig .tc := ⟨.hbm, 112, rfl⟩
abbrev main_v74 : Ref sig .tc := ⟨.hbm, 113, rfl⟩
abbrev main_cst_32 : Ref sig .tc := ⟨.hbm, 114, rfl⟩
abbrev main_v75 : Ref sig .tc := ⟨.hbm, 115, rfl⟩
abbrev main_cst_33 : Ref sig .tc := ⟨.hbm, 116, rfl⟩
abbrev main_v76 : Ref sig .tc := ⟨.hbm, 117, rfl⟩
abbrev main_cst_34 : Ref sig .tc := ⟨.hbm, 118, rfl⟩
abbrev main_v77 : Ref sig .tc := ⟨.hbm, 119, rfl⟩
abbrev main_cst_35 : Ref sig .tc := ⟨.hbm, 120, rfl⟩
abbrev main_v78 : Ref sig .tc := ⟨.hbm, 121, rfl⟩
abbrev main_cst_36 : Ref sig .tc := ⟨.hbm, 122, rfl⟩
abbrev main_v79 : Ref sig .tc := ⟨.hbm, 123, rfl⟩
abbrev main_cst_37 : Ref sig .tc := ⟨.hbm, 124, rfl⟩
abbrev main_v80 : Ref sig .tc := ⟨.hbm, 125, rfl⟩
abbrev main_cst_38 : Ref sig .tc := ⟨.hbm, 126, rfl⟩
abbrev main_v81 : Ref sig .tc := ⟨.hbm, 127, rfl⟩
abbrev main_cst_39 : Ref sig .tc := ⟨.hbm, 128, rfl⟩
abbrev main_v82 : Ref sig .tc := ⟨.hbm, 129, rfl⟩
abbrev main_c_40 : Ref sig .tc := ⟨.hbm, 130, rfl⟩
abbrev main_v83 : Ref sig .tc := ⟨.hbm, 131, rfl⟩
abbrev main_v84 : Ref sig .tc := ⟨.hbm, 132, rfl⟩
abbrev main_c_41 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_42 : Ref sig .tc := ⟨.hbm, 144, rfl⟩
abbrev main_v95 : Ref sig .tc := ⟨.hbm, 145, rfl⟩
abbrev main_v96 : Ref sig .tc := ⟨.hbm, 146, rfl⟩
abbrev main_c_43 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_44 : Ref sig .tc := ⟨.hbm, 154, rfl⟩
abbrev main_v103 : Ref sig .tc := ⟨.hbm, 155, rfl⟩
abbrev main_v104 : Ref sig .tc := ⟨.hbm, 156, rfl⟩
abbrev main_c_45 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_c_46 : Ref sig .tc := ⟨.hbm, 162, rfl⟩
abbrev main_v109 : Ref sig .tc := ⟨.hbm, 163, rfl⟩
abbrev main_v110 : Ref sig .tc := ⟨.hbm, 164, rfl⟩
abbrev main_c_47 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩

abbrev nD : Nat := 1
abbrev τ : Topo := Topo.v7x

variable {F : FTy → Type} [FloatOps F]
-- ==== Proof.Block.lean ====
/- What one block of packed weights becomes: the two level tables the kernel keeps as bytes, the look-up of a nibble in them,
   and the two rows of `bf16` levels formed of the looked-up bytes. -/
module

public import proofs.«01_k».proof.Proof.Gen.KernelIdeal
public import Idealize.ShloMosaic.Lib.BitcastPair
public import Idealize.ShloMosaic.Lib.BitcastFour
public import Idealize.ShloMosaic.Lib.ValueIdx
public import Idealize.ShloMosaic.Lib.Pipeline.Value
public import Idealize.ShloMosaic.Lib.Pointwise.ElementwiseCore

@[expose] public section

noncomputable section

namespace Cert.KernelIdeal.Hand

open Idealize.ShloMosaic Idealize.ShloMosaic.ValueIdx Cert.KernelIdeal.Gen

/-! ### Bits of a bit-cast at rank 2 -/

/-- Bit `q` of the element at row `a`, lane `l`, of a bit-cast is bit `o` of the source element at row `p` of that lane, where
    the bit's position in the lane is `a * w + q = p * v + o`. -/
theorem bitcast_ix2 {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (p : Fin R) (o : Nat)
    (ho : o < v) (hp : a.val * w + q = p.val * v + o) :
    (bitcast ⟨2, ![r, n]⟩ w x h (ix2 a l)).getLsbD q = (x (ix2 p l)).getLsbD o := by
  have hv : 0 < v := by omega
  rw [bitcast_getLsbD x h _ q hq hv]
  have hrow : (⟨2, ![r, n]⟩ : Shape).row (ix2 a l) = a.val := rfl
  have e1 : ((⟨2, ![r, n]⟩ : Shape).row (ix2 a l) * w + q) / v = p.val := by
    rw [hrow, hp, Nat.mul_comm, Nat.mul_add_div hv, Nat.div_eq_of_lt ho, Nat.add_zero]
  have e2 : ((⟨2, ![r, n]⟩ : Shape).row (ix2 a l) * w + q) % v = o := by
    rw [hrow, hp, Nat.mul_comm, Nat.mul_add_mod, Nat.mod_eq_of_lt ho]
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-! ### The tables -/

/-- The words of a table of sixteen bytes: word `a` is word `a % 4` of the four. -/
def tabWords (w0 w1 w2 w3 : BitVec 32) : IVec S8x128 32 :=
  select (cmpi .eq (andi (iota .tc S8x128 32 [0] iota_S8x128_d0_w32) (broadcast S8x128 3#32)) (broadcast S8x128 3#32)) (broadcast S8x128 w3)
    (select (cmpi .eq (andi (iota .tc S8x128 32 [0] iota_S8x128_d0_w32) (broadcast S8x128 3#32)) (broadcast S8x128 2#32)) (broadcast S8x128 w2)
      (select (cmpi .eq (andi (iota .tc S8x128 32 [0] iota_S8x128_d0_w32) (broadcast S8x128 3#32)) (broadcast S8x128 1#32)) (broadcast S8x128 w1)
        (broadcast S8x128 w0)))

/-- A table of sixteen bytes kept as four words, read as rows of bytes. -/
def tab (w0 w1 w2 w3 : BitVec 32) : IVec S32x128 8 :=
  bitcast S32x128 8 (tabWords w0 w1 w2 w3) bitcasts_S8x128_w32_S32x128_w8

/-- Word `a` of the table's rows of words. -/
theorem tabWords_apply (w0 w1 w2 w3 : BitVec 32) (a : Fin 8) (l : Fin 128) :
    tabWords w0 w1 w2 w3 (ix2 a l)
      = if a.val % 4 = 3 then w3 else if a.val % 4 = 2 then w2 else if a.val % 4 = 1 then w1 else w0 := by
  have hi : iota .tc S8x128 32 [0] iota_S8x128_d0_w32 (ix2 a l) = BitVec.ofNat 32 a.val := iota_single_apply ..
  unfold tabWords
  simp only [select_apply, cmpi, andi, hi, broadcast_apply]
  fin_cases a <;> rfl

/-- The table of the levels' low bytes. -/
def tabLo : IVec S32x128 8 := tab 3389403776#32 12205458#32 2910594467#32 2151223522#32
/-- The table of the levels' high bytes. -/
def tabHi : IVec S32x128 8 := tab 3200237503#32 12435134#32 1044266557#32 1061109566#32

/-- Byte `k` of the table of four words. -/
def tabByte (w0 w1 w2 w3 : BitVec 32) (k : Nat) : BitVec 8 :=
  (if k / 4 % 4 = 3 then w3 else if k / 4 % 4 = 2 then w2 else if k / 4 % 4 = 1 then w1 else w0).extractLsb' (8 * (k % 4)) 8

/-- Row `p` of the table is byte `p` of its four words, the sixteen bytes repeating. -/
theorem tab_apply (w0 w1 w2 w3 : BitVec 32) (p : Fin 32) (l : Fin 128) :
    tab w0 w1 w2 w3 (ix2 p l) = tabByte w0 w1 w2 w3 (p.val % 16) := by
  apply BitVec.eq_of_getLsbD_eq
  intro q hq
  unfold tab
  rw [bitcast_ix2 _ _ p l q hq ⟨p.val / 4, by omega⟩ (8 * (p.val % 4) + q) (by omega) (by dsimp only; omega), tabWords_apply]
  unfold tabByte
  have e : p.val % 16 % 4 = p.val % 4 := by omega
  have e' : p.val % 16 / 4 % 4 = p.val / 4 % 4 := by omega
  rw [BitVec.getLsbD_extractLsb', e, e', decide_eq_true hq, Bool.true_and]

/-! ### The look-up -/

/-- The kernel's look-up: the byte of the table at each index, the index taken as the kernel takes it. -/
def look (t idx : IVec S32x128 8) : IVec S32x128 8 :=
  dynamicGather 0 t (shapeCast S32x128 (shapeCast S32x128x1 (extsi 32 idx natLt_8_32) shapeCasts_S32x128_S32x128x1)
    shapeCasts_S32x128x1_S32x128)

/-- Of a byte widened with its sign, the position it names in a table of thirty-two rows that repeats after sixteen is that of
    its low four bits. -/
theorem signExtend_mod (b : BitVec 8) : (b.signExtend 32).toNat % 32 % 16 = b.toNat % 16 := by
  have h : ∀ k : Fin 256, ((BitVec.ofFin k : BitVec 8).signExtend 32).toNat % 32 % 16 = k.val % 16 := by decide +kernel
  exact h b.toFin

/-- A look-up in a table whose rows repeat after sixteen depends on the index's low four bits. -/
theorem look_apply (w0 w1 w2 w3 : BitVec 32) (idx : IVec S32x128 8) (p : Fin 32) (l : Fin 128) :
    look (tab w0 w1 w2 w3) idx (ix2 p l) = tabByte w0 w1 w2 w3 ((idx (ix2 p l)).toNat % 16) := by
  have e : shapeCast S32x128 (shapeCast S32x128x1 (extsi 32 idx natLt_8_32) shapeCasts_S32x128_S32x128x1)
      shapeCasts_S32x128x1_S32x128 = extsi 32 idx natLt_8_32 := shapeCast_shapeCast ..
  unfold look
  rw [e, dynamicGather_apply]
  have e2 : (fun b => if b = 0 then ⟨((extsi 32 idx natLt_8_32) (ix2 p l)).toNat % S32x128.size b, Nat.mod_lt _ (Fin.pos ((ix2 p l) b))⟩ else ix2 p l b : S32x128.Idx)
      = ix2 ⟨((idx (ix2 p l)).signExtend 32).toNat % 32, Nat.mod_lt _ (by decide)⟩ l := by
    funext b; fin_cases b <;> rfl
  rw [e2, tab_apply]
  dsimp only
  rw [signExtend_mod]

/-! ### The levels' bits -/

/-- The packed block as words: four byte rows to a word row. -/
def words (p : IVec S1x32x128 8) : IVec S8x128 32 :=
  bitcast S8x128 32 (shapeCast S32x128 p shapeCasts_S1x32x128_S32x128) bitcasts_S32x128_w8_S8x128_w32

/-- The indices of the high nibbles. -/
def idxHi (p : IVec S1x32x128 8) : IVec S32x128 8 :=
  bitcast S32x128 8 (shrui (words p) (broadcast S8x128 4#32)) bitcasts_S8x128_w32_S32x128_w8

/-- The indices of the low nibbles. -/
def idxLo (p : IVec S1x32x128 8) : IVec S32x128 8 :=
  bitcast S32x128 8 (words p) bitcasts_S8x128_w32_S32x128_w8

/-- Bit `q` of a word of the packed block: bit `q % 8` of the byte in row `4 a + q / 8`. -/
theorem words_bit (p : IVec S1x32x128 8) (a : Fin 8) (l : Fin 128) (q : Nat) (hq : q < 32) :
    (words p (ix2 a l)).getLsbD q = (p (ix3 0 ⟨4 * a.val + q / 8, by omega⟩ l)).getLsbD (q % 8) := by
  unfold words
  rw [bitcast_ix2 _ _ a l q hq ⟨4 * a.val + q / 8, by omega⟩ (q % 8) (by omega) (by dsimp only; omega)]
  congr 1
  rw [shapeCast_dropUnit_apply (n := 2) (d := ![32, 128])]
  congr 1
  funext b; fin_cases b <;> rfl

/-- The low-nibble index of a row and lane is the packed byte itself. -/
theorem idxLo_apply (p : IVec S1x32x128 8) (r : Fin 32) (l : Fin 128) : idxLo p (ix2 r l) = p (ix3 0 r l) := by
  apply BitVec.eq_of_getLsbD_eq
  intro q hq
  unfold idxLo
  rw [bitcast_ix2 _ _ r l q hq ⟨r.val / 4, by omega⟩ (8 * (r.val % 4) + q) (by omega) (by dsimp only; omega), words_bit _ _ _ _ (by omega)]
  congr 2
  · congr 1; apply Fin.ext; dsimp only; omega
  · omega

/-- The high-nibble index of a row and lane is, modulo 16, the packed byte's high nibble: what the shift of a whole word brings in
from the next byte lies above the four bits kept. -/
theorem idxHi_mod (p : IVec S1x32x128 8) (r : Fin 32) (l : Fin 128) :
    (idxHi p (ix2 r l)).toNat % 16 = (p (ix3 0 r l)).toNat / 16 := by
  have h : (idxHi p (ix2 r l)).extractLsb' 0 4 = (p (ix3 0 r l)).extractLsb' 4 4 := by
    apply BitVec.eq_of_getLsbD_eq
    intro q hq
    rw [BitVec.getLsbD_extractLsb', BitVec.getLsbD_extractLsb', decide_eq_true hq, Bool.true_and, Bool.true_and]
    unfold idxHi
    rw [bitcast_ix2 _ _ r l (0 + q) (by omega) ⟨r.val / 4, by omega⟩ (8 * (r.val % 4) + q) (by omega) (by dsimp only; omega)]
    have e : (shrui (words p) (broadcast S8x128 4#32)) (ix2 (⟨r.val / 4, by omega⟩ : Fin 8) l) = words p (ix2 ⟨r.val / 4, by omega⟩ l) >>> 4 := rfl
    rw [e, BitVec.getLsbD_ushiftRight, words_bit _ _ _ _ (by omega)]
    congr 2
    · congr 1; apply Fin.ext; dsimp only; omega
    · omega
  have h2 := congrArg BitVec.toNat h
  simp only [BitVec.extractLsb'_toNat, Nat.shiftRight_zero, Nat.shiftRight_eq_div_pow] at h2
  have := (p (ix3 0 r l)).isLt
  omega

/-- The words of the even rows' levels: of each pair of byte rows the even one, its low bytes and its high bytes side by side. -/
def evenW (lo hi : IVec S32x128 8) : IVec S8x128 32 :=
  ori (andi (bitcast S8x128 32 lo bitcasts_S32x128_w8_S8x128_w32) (broadcast S8x128 16711935#32))
    (shli (andi (bitcast S8x128 32 hi bitcasts_S32x128_w8_S8x128_w32) (broadcast S8x128 16711935#32)) (broadcast S8x128 8#32))

/-- The words of the odd rows' levels. -/
def oddW (lo hi : IVec S32x128 8) : IVec S8x128 32 :=
  ori (andi (shrui (bitcast S8x128 32 lo bitcasts_S32x128_w8_S8x128_w32) (broadcast S8x128 8#32)) (broadcast S8x128 16711935#32))
    (andi (bitcast S8x128 32 hi bitcasts_S32x128_w8_S8x128_w32) (broadcast S8x128 (Scalar.xori 16711935#32 4294967295#32)))

/-- The mask keeps the even bytes of a word. -/
theorem mask_bit (q : Nat) (hq : q < 32) : (16711935#32 : BitVec 32).getLsbD q = decide (q % 16 < 8) := by
  have h : ∀ k : Fin 32, (16711935#32 : BitVec 32).getLsbD k.val = decide (k.val % 16 < 8) := by decide
  exact h ⟨q, hq⟩

/-- The mask's complement keeps the odd bytes of a word. -/
theorem nmask_bit (q : Nat) (hq : q < 32) : (Scalar.xori 16711935#32 4294967295#32 : BitVec 32).getLsbD q = decide (8 ≤ q % 16) := by
  have h : ∀ k : Fin 32, (Scalar.xori 16711935#32 4294967295#32 : BitVec 32).getLsbD k.val = decide (8 ≤ k.val % 16) := by decide
  exact h ⟨q, hq⟩

/-- Bit `q` of a word made of four byte rows: bit `q % 8` of the byte in row `4 a + q / 8`. -/
theorem bytes_bit (x : IVec S32x128 8) (a : Fin 8) (l : Fin 128) (q : Nat) (hq : q < 32) :
    (bitcast S8x128 32 x bitcasts_S32x128_w8_S8x128_w32 (ix2 a l)).getLsbD q = (x (ix2 ⟨4 * a.val + q / 8, by omega⟩ l)).getLsbD (q % 8) := by
  rw [bitcast_ix2 _ _ a l q hq ⟨4 * a.val + q / 8, by omega⟩ (q % 8) (by omega) (by dsimp only; omega)]

/-- Row `r` of the even words read as sixteen-bit rows: the high byte and the low byte of byte row `2r`. -/
theorem evenW_apply (lo hi : IVec S32x128 8) (r : Fin 16) (l : Fin 128) :
    bitcast S16x128 16 (evenW lo hi) bitcasts_S8x128_w32_S16x128_w16 (ix2 r l)
      = hi (ix2 ⟨2 * r.val, by omega⟩ l) ++ lo (ix2 ⟨2 * r.val, by omega⟩ l) := by
  apply BitVec.eq_of_getLsbD_eq
  intro q hq
  rw [bitcast_ix2 _ _ r l q hq ⟨r.val / 2, by omega⟩ (16 * (r.val % 2) + q) (by omega) (by dsimp only; omega)]
  have e : evenW lo hi (ix2 (⟨r.val / 2, by omega⟩ : Fin 8) l)
      = (bitcast S8x128 32 lo bitcasts_S32x128_w8_S8x128_w32 (ix2 ⟨r.val / 2, by omega⟩ l) &&& 16711935#32)
        ||| ((bitcast S8x128 32 hi bitcasts_S32x128_w8_S8x128_w32 (ix2 ⟨r.val / 2, by omega⟩ l) &&& 16711935#32) <<< 8) := rfl
  rw [e, BitVec.getLsbD_or, BitVec.getLsbD_shiftLeft, BitVec.getLsbD_and, BitVec.getLsbD_and, bytes_bit _ _ _ _ (by omega),
    bytes_bit _ _ _ _ (by omega), mask_bit _ (by omega), mask_bit _ (by omega), BitVec.getLsbD_append]
  by_cases h8 : q < 8
  · rw [if_pos h8, decide_eq_true (by omega : (16 * (r.val % 2) + q) % 16 < 8)]
    have : decide ((16 * (r.val % 2) + q - 8) % 16 < 8 ∧ ¬(16 * (r.val % 2) + q < 8)) = false := decide_eq_false (by omega)
    simp only [Bool.and_true]
    by_cases h16 : 16 * (r.val % 2) + q < 8
    · rw [decide_eq_true h16]; simp only [Bool.not_true, Bool.and_false, Bool.false_and, Bool.or_false]
      congr 2
      · congr 1; apply Fin.ext; dsimp only; omega
      · omega
    · rw [decide_eq_false (by omega : ¬(16 * (r.val % 2) + q - 8) % 16 < 8)]; simp only [Bool.and_false, Bool.or_false]
      congr 2
      · congr 1; apply Fin.ext; dsimp only; omega
      · omega
  · rw [if_neg h8, decide_eq_false (by omega : ¬(16 * (r.val % 2) + q) % 16 < 8), decide_eq_true (by omega : 16 * (r.val % 2) + q < 32),
      decide_eq_false (by omega : ¬(16 * (r.val % 2) + q < 8)), decide_eq_true (by omega : (16 * (r.val % 2) + q - 8) % 16 < 8)]
    simp only [Bool.and_false, Bool.false_or, Bool.not_false, Bool.true_and, Bool.and_true]
    congr 2
    · congr 1; apply Fin.ext; dsimp only; omega
    · omega

/-- Row `r` of the odd words read as sixteen-bit rows: the high byte and the low byte of byte row `2r + 1`. -/
theorem oddW_apply (lo hi : IVec S32x128 8) (r : Fin 16) (l : Fin 128) :
    bitcast S16x128 16 (oddW lo hi) bitcasts_S8x128_w32_S16x128_w16 (ix2 r l)
      = hi (ix2 ⟨2 * r.val + 1, by omega⟩ l) ++ lo (ix2 ⟨2 * r.val + 1, by omega⟩ l) := by
  apply BitVec.eq_of_getLsbD_eq
  intro q hq
  rw [bitcast_ix2 _ _ r l q hq ⟨r.val / 2, by omega⟩ (16 * (r.val % 2) + q) (by omega) (by dsimp only; omega)]
  have e : oddW lo hi (ix2 (⟨r.val / 2, by omega⟩ : Fin 8) l)
      = ((bitcast S8x128 32 lo bitcasts_S32x128_w8_S8x128_w32 (ix2 ⟨r.val / 2, by omega⟩ l) >>> 8) &&& 16711935#32)
        ||| (bitcast S8x128 32 hi bitcasts_S32x128_w8_S8x128_w32 (ix2 ⟨r.val / 2, by omega⟩ l) &&& Scalar.xori 16711935#32 4294967295#32) := rfl
  rw [e, BitVec.getLsbD_or, BitVec.getLsbD_and, BitVec.getLsbD_and, BitVec.getLsbD_ushiftRight, bytes_bit _ _ _ (16 * (r.val % 2) + q) (by omega),
    mask_bit _ (by omega), nmask_bit _ (by omega), BitVec.getLsbD_append]
  by_cases h8 : q < 8
  · rw [if_pos h8, decide_eq_true (by omega : (16 * (r.val % 2) + q) % 16 < 8), decide_eq_false (by omega : ¬ 8 ≤ (16 * (r.val % 2) + q) % 16),
      bytes_bit _ _ _ _ (by omega)]
    simp only [Bool.and_true, Bool.and_false, Bool.or_false]
    congr 2
    · congr 1; apply Fin.ext; dsimp only; omega
    · omega
  · rw [if_neg h8, decide_eq_false (by omega : ¬(16 * (r.val % 2) + q) % 16 < 8), decide_eq_true (by omega : 8 ≤ (16 * (r.val % 2) + q) % 16)]
    simp only [Bool.and_true, Bool.and_false, Bool.false_or]
    congr 2
    · congr 1; apply Fin.ext; dsimp only; omega
    · omega

/-! ### The levels -/

/-- The sixteen bits of level `k`. -/
def levelBits (k : Nat) : BitVec 16 :=
  tabByte 3200237503#32 12435134#32 1044266557#32 1061109566#32 k ++ tabByte 3389403776#32 12205458#32 2910594467#32 2151223522#32 k

variable {F : FTy → Type} [FloatOps F]

/-- The levels of a block's rows of words. -/
def lvl (w : IVec S8x128 32) : FVec F S16x128 .bf16 :=
  bitcastToFloat .bf16 (bitcast S16x128 16 w bitcasts_S8x128_w32_S16x128_w16)

/-- The levels of the even rows' high nibbles. -/
theorem lvl_even_hi (p : IVec S1x32x128 8) (r : Fin 16) (l : Fin 128) :
    lvl (F := F) (evenW (look tabLo (idxHi p)) (look tabHi (idxHi p))) (ix2 r l)
      = FloatOps.ofBits .bf16 (levelBits ((p (ix3 0 ⟨2 * r.val, by omega⟩ l)).toNat / 16)) := by
  unfold lvl; rw [bitcastToFloat_apply, evenW_apply]; unfold tabLo tabHi; rw [look_apply, look_apply, idxHi_mod]; rfl

/-- The levels of the odd rows' high nibbles. -/
theorem lvl_odd_hi (p : IVec S1x32x128 8) (r : Fin 16) (l : Fin 128) :
    lvl (F := F) (oddW (look tabLo (idxHi p)) (look tabHi (idxHi p))) (ix2 r l)
      = FloatOps.ofBits .bf16 (levelBits ((p (ix3 0 ⟨2 * r.val + 1, by omega⟩ l)).toNat / 16)) := by
  unfold lvl; rw [bitcastToFloat_apply, oddW_apply]; unfold tabLo tabHi; rw [look_apply, look_apply, idxHi_mod]; rfl

/-- The levels of the even rows' low nibbles. -/
theorem lvl_even_lo (p : IVec S1x32x128 8) (r : Fin 16) (l : Fin 128) :
    lvl (F := F) (evenW (look tabLo (idxLo p)) (look tabHi (idxLo p))) (ix2 r l)
      = FloatOps.ofBits .bf16 (levelBits ((p (ix3 0 ⟨2 * r.val, by omega⟩ l)).toNat % 16)) := by
  unfold lvl; rw [bitcastToFloat_apply, evenW_apply]; unfold tabLo tabHi; rw [look_apply, look_apply, idxLo_apply]; rfl

/-- The levels of the odd rows' low nibbles. -/
theorem lvl_odd_lo (p : IVec S1x32x128 8) (r : Fin 16) (l : Fin 128) :
    lvl (F := F) (oddW (look tabLo (idxLo p)) (look tabHi (idxLo p))) (ix2 r l)
      = FloatOps.ofBits .bf16 (levelBits ((p (ix3 0 ⟨2 * r.val + 1, by omega⟩ l)).toNat % 16)) := by
  unfold lvl; rw [bitcastToFloat_apply, oddW_apply]; unfold tabLo tabHi; rw [look_apply, look_apply, idxLo_apply]; rfl

end Cert.KernelIdeal.Hand
-- ==== Proof.Trip.lean ====
/- One trip of a multiply loop: the 256 by 256 tile of weights it forms of two lane groups of packed weights and their scales,
   and the block of the activations it multiplies by that tile. -/
module

public import proofs.«01_k».proof.Proof.Block
public import Idealize.ShloMosaic.Lib.Pointwise.Contract
public import Idealize.ShloMosaic.PureOps.Ideal.Laws

@[expose] public section

noncomputable section

namespace Cert.KernelIdeal.Hand

open Idealize.ShloMosaic Cert.KernelIdeal.Gen

variable {F : FTy → Type} [FloatOps F]

/-- The scales of one block of 64 weights, one a lane, spread over 16 rows. -/
def sRow (s : FVec F S1x1x128 .f32) : FVec F S16x128 .bf16 :=
  truncf .bf16 (broadcastTo S16x128 (shapeCast S1x128 (shapeCast S1x128 s shapeCasts_S1x1x128_S1x128) shapeCasts_S1x128_S1x128)
    broadcasts_S1x128_S16x128) bitsLt_bf16_f32

/-- The looked-up bytes of the high nibbles, formed into the levels of the even packed rows. -/
def evHi (p : IVec S1x32x128 8) : IVec S8x128 32 := evenW (look tabLo (idxHi p)) (look tabHi (idxHi p))
/-- The looked-up bytes of the low nibbles, formed into the levels of the even packed rows. -/
def evLo (p : IVec S1x32x128 8) : IVec S8x128 32 := evenW (look tabLo (idxLo p)) (look tabHi (idxLo p))
/-- The looked-up bytes of the high nibbles, formed into the levels of the odd packed rows. -/
def odHi (p : IVec S1x32x128 8) : IVec S8x128 32 := oddW (look tabLo (idxHi p)) (look tabHi (idxHi p))
/-- The looked-up bytes of the low nibbles, formed into the levels of the odd packed rows. -/
def odLo (p : IVec S1x32x128 8) : IVec S8x128 32 := oddW (look tabLo (idxLo p)) (look tabHi (idxLo p))

/-- A quarter of a block: 16 rows of levels times the block's scales. -/
def quarter (w : IVec S8x128 32) (s : FVec F S1x1x128 .f32) : FVec F S16x128 .bf16 := mulf (lvl w) (sRow s)

/-- The 256 by 128 half of a trip's tile: four blocks of 64 rows, each in four quarters. -/
def wcat (s0 : FVec F S1x1x128 .f32) (p0 : IVec S1x32x128 8) (s1 : FVec F S1x1x128 .f32) (p1 : IVec S1x32x128 8)
    (s2 : FVec F S1x1x128 .f32) (p2 : IVec S1x32x128 8) (s3 : FVec F S1x1x128 .f32) (p3 : IVec S1x32x128 8) :
    FVec F S256x128 .bf16 :=
  concatenate S256x128 0 [⟨S16x128, quarter (evHi p0) s0⟩, ⟨S16x128, quarter (evLo p0) s0⟩, ⟨S16x128, quarter (odHi p0) s0⟩,
    ⟨S16x128, quarter (odLo p0) s0⟩, ⟨S16x128, quarter (evHi p1) s1⟩, ⟨S16x128, quarter (evLo p1) s1⟩,
    ⟨S16x128, quarter (odHi p1) s1⟩, ⟨S16x128, quarter (odLo p1) s1⟩, ⟨S16x128, quarter (evHi p2) s2⟩,
    ⟨S16x128, quarter (evLo p2) s2⟩, ⟨S16x128, quarter (odHi p2) s2⟩, ⟨S16x128, quarter (odLo p2) s2⟩,
    ⟨S16x128, quarter (evHi p3) s3⟩, ⟨S16x128, quarter (evLo p3) s3⟩, ⟨S16x128, quarter (odHi p3) s3⟩,
    ⟨S16x128, quarter (odLo p3) s3⟩]
    concatenates_S16x128_S16x128_S16x128_S16x128_S16x128_S16x128_S16x128_S16x128_S16x128_S16x128_S16x128_S16x128_S16x128_S16x128_S16x128_S16x128_S256x128_d0

/-- What a trip adds to what it carries: the block of activations times the tile. -/
def tripOut (acc : FVec F S16x256 .f32) (x : FVec F S16x256 .bf16) (w0 w1 : FVec F S256x128 .bf16) : FVec F S16x256 .f32 :=
  addf acc (matmul dot_S16x256_S256x256_S16x256_1_0_0_1_n_n none x
    (concatenate S256x256 1 [⟨S256x128, w0⟩, ⟨S256x128, w1⟩] concatenates_S256x128_S256x128_S256x256_d1)
    (constant S16x256 .f32 0x00000000#32))

/-- A scale, spread over 16 rows, is the same in every row. -/
theorem sRow_apply (s : FVec Ideal S1x1x128 .f32) (r : Fin 16) (l : Fin 128) : sRow s (ix2 r l) = s (ix3 0 0 l) := by
  unfold sRow
  rw [ValueIdx.truncf_apply, broadcastTo_apply (k := ix2 0 l) (hk := by intro a; fin_cases a <;> rfl), shapeCast_self]
  rw [shapeCast_dropUnit_apply (n := 2) (d := ![1, 128])]
  congr 1; funext b; fin_cases b <;> rfl

/-- The nibble of packed byte `v` that quarter `c` of a block takes: the high one for the first and third, the low one for the
    others. -/
def nib (v : BitVec 8) (c : Nat) : Nat := if c % 2 = 0 then v.toNat / 16 else v.toNat % 16

/-- One entry of a quarter `c` of a block. -/
theorem quarter_apply (c : Fin 4) (p : IVec S1x32x128 8) (s : FVec Ideal S1x1x128 .f32) (r : Fin 16) (l : Fin 128) :
    quarter (F := Ideal) (match c with | 0 => evHi p | 1 => evLo p | 2 => odHi p | 3 => odLo p) s (ix2 r l)
      = FloatOps.ofBits (F := Ideal) .bf16 (levelBits (nib (p (ix3 0 ⟨2 * r.val + c.val / 2, by omega⟩ l)) c.val))
        * s (ix3 0 0 l) := by
  unfold quarter
  rw [ValueIdx.mulf_apply, sRow_apply]
  fin_cases c
  · exact congrArg (fun z : EReal => z * s (ix3 0 0 l)) (lvl_even_hi (F := Ideal) p r l)
  · exact congrArg (fun z : EReal => z * s (ix3 0 0 l)) (lvl_even_lo (F := Ideal) p r l)
  · exact congrArg (fun z : EReal => z * s (ix3 0 0 l)) (lvl_odd_hi (F := Ideal) p r l)
  · exact congrArg (fun z : EReal => z * s (ix3 0 0 l)) (lvl_odd_lo (F := Ideal) p r l)

/-- Row `n` of a tile's half in its parts: block `n / 64`, quarter `n / 16 % 4`, row `n % 16` of the quarter. -/
theorem wcat_apply (s : Fin 4 → FVec Ideal S1x1x128 .f32) (p : Fin 4 → IVec S1x32x128 8) (n : Fin 256) (l : Fin 128) :
    wcat (F := Ideal) (s 0) (p 0) (s 1) (p 1) (s 2) (p 2) (s 3) (p 3) (ix2 n l)
      = FloatOps.ofBits (F := Ideal) .bf16 (levelBits (nib (p ⟨n.val / 64, by omega⟩
          (ix3 0 ⟨2 * (n.val % 16) + n.val / 16 % 4 / 2, by omega⟩ l)) (n.val / 16 % 4)))
        * s ⟨n.val / 64, by omega⟩ (ix3 0 0 l) := by
  have h := concatenate_ofFn_apply (t := S256x128) 0
    (fun m : Fin 16 => (quarter (F := Ideal) (match (⟨m.val % 4, Nat.mod_lt _ (by decide)⟩ : Fin 4) with
      | 0 => evHi (p ⟨m.val / 4, by omega⟩) | 1 => evLo (p ⟨m.val / 4, by omega⟩)
      | 2 => odHi (p ⟨m.val / 4, by omega⟩) | 3 => odLo (p ⟨m.val / 4, by omega⟩)) (s ⟨m.val / 4, by omega⟩)))
    concatenates_S16x128_S16x128_S16x128_S16x128_S16x128_S16x128_S16x128_S16x128_S16x128_S16x128_S16x128_S16x128_S16x128_S16x128_S16x128_S16x128_S256x128_d0
    rfl 16 rfl (ix2 n l) ⟨n.val / 16, by omega⟩ rfl (ix2 ⟨n.val % 16, Nat.mod_lt _ (by decide)⟩ l) rfl
    (by intro b hb; fin_cases b; exacts [absurd rfl hb, rfl])
  have h2 : n.val / 16 / 4 = n.val / 64 := by omega
  refine Eq.trans h ?_
  rw [quarter_apply]
  simp only [h2]

/-- A trip at an index: what it carried, plus the sum over the tile's 256 rows. -/
theorem tripOut_apply (acc : FVec Ideal S16x256 .f32) (x : FVec Ideal S16x256 .bf16) (w : Fin 2 → FVec Ideal S256x128 .bf16)
    (b : Fin 16) (col : Fin 256) :
    tripOut acc x (w 0) (w 1) (ix2 b col)
      = acc (ix2 b col) + ∑ k : Fin 256, x (ix2 b k) * w ⟨col.val / 128, by omega⟩ (ix2 k ⟨col.val % 128, Nat.mod_lt _ (by decide)⟩) := by
  unfold tripOut
  rw [ValueIdx.addf_apply]
  refine congrArg (acc (ix2 b col) + ·) ?_
  show Ideal.matmul dot_S16x256_S256x256_S16x256_1_0_0_1_n_n x _ (constant (F := Ideal) S16x256 .f32 0x00000000#32) (ix2 b col) = _
  rw [Ideal.matmul_apply₁_of dot_S16x256_S256x256_S16x256_1_0_0_1_n_n rfl rfl x _ _ (ix2 b col) (fun k => ix2 b k)
    (fun k => ix2 k col) (fun k => by funext a; fin_cases a <;> rfl) (fun k => by funext a; fin_cases a <;> rfl)]
  rw [show (constant (F := Ideal) S16x256 .f32 0x00000000#32) (ix2 b col) = (0 : EReal) from Idealize.ShloMosaic.Ideal.ofBits_zero_f32, zero_add]
  refine Finset.sum_congr rfl fun k _ => congrArg (x (ix2 b k) * ·) ?_
  exact concatenate_ofFn_apply (t := S256x256) 1 w concatenates_S256x128_S256x128_S256x256_d1 rfl 128 rfl (ix2 k col)
    ⟨col.val / 128, by omega⟩ rfl (ix2 k ⟨col.val % 128, Nat.mod_lt _ (by decide)⟩) rfl
    (by intro a ha; fin_cases a; exacts [rfl, absurd rfl ha])

end Cert.KernelIdeal.Hand

end
-- ==== Proof.Mult.lean ====
/- A multiply loop as a whole: after its eighteen trips the accumulator holds, besides what it held first, the product of the
   activations by the weights of two lane groups. -/
module

public import proofs.«01_k».proof.Proof.Trip
public import proofs.«01_k».proof.Proof.Gen.KernelIdeal.Loops
public import Idealize.ShloMosaic.Lib.Pipeline.ValueKit.Tiles

@[expose] public section

noncomputable section

namespace Cert.KernelIdeal.Hand

open Idealize.ShloMosaic Cert.KernelIdeal.Gen

/-- A load of a box at unit stride reads, at `x`, what the view holds at the index `off + x`. -/
theorem readAt_unit {κ : Kind} {sp : Space} {s : Shape} {e : EltTy} (v : View sig κ sp s e) (f : v.ty.Contents (Elt Ideal))
    (off size : Fin s.rank → Nat) (inb : ∀ a, off a + size a ≤ s.size a) (x : (Rect.unit off size inb).shape.Idx) (i : s.Idx)
    (hi : ∀ a, (i a).val = off a + (x a).val) :
    View.readAt (Elt Ideal) v (Rect.unit off size inb).toLoadRect f x = v.read (Elt Ideal) f i :=
  congrArg (v.read (Elt Ideal) f) (funext fun a => Fin.ext ((Rect.idx_unit_val off size inb x a).trans (hi a).symm))

/-- The weight that row `n` of lane group `q`, lane `l`, holds: a level of the table times its block's scale. Rows come in blocks
    of 64, and a block's rows in four quarters of 16: the quarter tells the nibble and the parity of the packed row. -/
def weight (wt : S4x2304x128.Idx → BitVec 8) (sc : S4x72x128.Idx → EReal) (q : Fin 4) (n : Fin 4608) (l : Fin 128) : EReal :=
  FloatOps.ofBits (F := Ideal) .bf16 (levelBits (nib (wt (ix3 q ⟨n.val / 64 * 32 + (2 * (n.val % 16) + n.val / 16 % 4 / 2), by omega⟩ l))
    (n.val / 16 % 4))) * sc (ix3 q ⟨n.val / 64, by omega⟩ l)

/-- A row of activations times the weights of lane `l` of lane group `q`. -/
def mulRow (xp : S16x4608.Idx → EReal) (wt : S4x2304x128.Idx → BitVec 8) (sc : S4x72x128.Idx → EReal) (q : Fin 4) (b : Fin 16)
    (l : Fin 128) : EReal :=
  ∑ n : Fin 4608, xp (ix2 b n) * weight wt sc q n l

/-- A sum over 18 steps of 256 is a sum over the 4608 positions. -/
theorem sum_steps (f : Fin 4608 → EReal) :
    ∑ k : Fin 18, ∑ m : Fin 256, f ⟨256 * k.val + m.val, by omega⟩ = ∑ n : Fin 4608, f n := by
  rw [← Fintype.sum_prod_type' (f := fun (k : Fin 18) (m : Fin 256) => f ⟨256 * k.val + m.val, by omega⟩)]
  refine Fintype.sum_equiv (finProdFinEquiv (m := 18) (n := 256)) _ _ fun p => congrArg f (Fin.ext ?_)
  show 256 * p.1.val + p.2.val = p.2.val + 256 * p.1.val
  omega

/-- A multiply loop, from what each trip reads: the activations' block, and for each of two lane groups the four blocks of packed
    weights and their scales. -/
theorem loop_apply {N : Nat} (hN : N = 18) (xp : S16x4608.Idx → EReal) (wt : S4x2304x128.Idx → BitVec 8) (sc : S4x72x128.Idx → EReal)
    (q : Fin 2 → Fin 4) (st : Nat → FVec Ideal S16x256 .f32) (x : Fin N → FVec Ideal S16x256 .bf16)
    (p0 p1 : Fin N → Fin 4 → IVec S1x32x128 8) (s0 s1 : Fin N → Fin 4 → FVec Ideal S1x1x128 .f32)
    (hs : ∀ k : Fin N, st (k.val + 1) = tripOut (st k.val) (x k)
      (wcat (s0 k 0) (p0 k 0) (s0 k 1) (p0 k 1) (s0 k 2) (p0 k 2) (s0 k 3) (p0 k 3))
      (wcat (s1 k 0) (p1 k 0) (s1 k 1) (p1 k 1) (s1 k 2) (p1 k 2) (s1 k 3) (p1 k 3)))
    (hx : ∀ (k : Fin N) (b : Fin 16) (c : Fin 256), x k (ix2 b c) = xp (ix2 b ⟨256 * k.val + c.val, by omega⟩))
    (hp0 : ∀ (k : Fin N) (m : Fin 4) (r : Fin 32) (l : Fin 128),
      p0 k m (ix3 0 r l) = wt (ix3 (q 0) ⟨128 * k.val + 32 * m.val + r.val, by omega⟩ l))
    (hp1 : ∀ (k : Fin N) (m : Fin 4) (r : Fin 32) (l : Fin 128),
      p1 k m (ix3 0 r l) = wt (ix3 (q 1) ⟨128 * k.val + 32 * m.val + r.val, by omega⟩ l))
    (hs0 : ∀ (k : Fin N) (m : Fin 4) (l : Fin 128), s0 k m (ix3 0 0 l) = sc (ix3 (q 0) ⟨4 * k.val + m.val, by omega⟩ l))
    (hs1 : ∀ (k : Fin N) (m : Fin 4) (l : Fin 128), s1 k m (ix3 0 0 l) = sc (ix3 (q 1) ⟨4 * k.val + m.val, by omega⟩ l))
    (b : Fin 16) (col : Fin 256) :
    st N (ix2 b col) = st 0 (ix2 b col)
      + mulRow xp wt sc (q ⟨col.val / 128, by omega⟩) b ⟨col.val % 128, Nat.mod_lt _ (by decide)⟩ := by
  subst hN
  have half : ∀ (j : Fin 2) (p : Fin 4 → IVec S1x32x128 8) (s : Fin 4 → FVec Ideal S1x1x128 .f32) (k : Fin 18)
      (_ : ∀ (m : Fin 4) (r : Fin 32) (l : Fin 128), p m (ix3 0 r l) = wt (ix3 (q j) ⟨128 * k.val + 32 * m.val + r.val, by omega⟩ l))
      (_ : ∀ (m : Fin 4) (l : Fin 128), s m (ix3 0 0 l) = sc (ix3 (q j) ⟨4 * k.val + m.val, by omega⟩ l)) (n : Fin 256) (l : Fin 128),
      wcat (s 0) (p 0) (s 1) (p 1) (s 2) (p 2) (s 3) (p 3) (ix2 n l) = weight wt sc (q j) ⟨256 * k.val + n.val, by omega⟩ l := by
    intro j p s k hp hsj n l
    rw [wcat_apply, hp, hsj]
    unfold weight
    have e1 : (256 * k.val + n.val) / 64 = 4 * k.val + n.val / 64 := by omega
    have e2 : (256 * k.val + n.val) % 16 = n.val % 16 := by omega
    have e3 : (256 * k.val + n.val) / 16 % 4 = n.val / 16 % 4 := by omega
    have e4 : 128 * k.val + 32 * (n.val / 64) + (2 * (n.val % 16) + n.val / 16 % 4 / 2)
      = (4 * k.val + n.val / 64) * 32 + (2 * (n.val % 16) + n.val / 16 % 4 / 2) := by omega
    simp only [e1, e2, e3, e4]
  have step : ∀ k : Fin 18, st (k.val + 1) (ix2 b col) = st k.val (ix2 b col)
      + ∑ m : Fin 256, xp (ix2 b ⟨256 * k.val + m.val, by omega⟩)
        * weight wt sc (q ⟨col.val / 128, by omega⟩) ⟨256 * k.val + m.val, by omega⟩ ⟨col.val % 128, Nat.mod_lt _ (by decide)⟩ := by
    intro k
    have h := tripOut_apply (st k.val) (x k)
      (fun j => match j with
        | 0 => wcat (s0 k 0) (p0 k 0) (s0 k 1) (p0 k 1) (s0 k 2) (p0 k 2) (s0 k 3) (p0 k 3)
        | 1 => wcat (s1 k 0) (p1 k 0) (s1 k 1) (p1 k 1) (s1 k 2) (p1 k 2) (s1 k 3) (p1 k 3)) b col
    rw [hs k]
    refine Eq.trans h (congrArg (st k.val (ix2 b col) + ·) (Finset.sum_congr rfl fun m _ => ?_))
    rw [hx]
    refine congrArg (xp _ * ·) ?_
    generalize hj : (⟨col.val / 128, by omega⟩ : Fin 2) = j
    fin_cases j
    · exact half 0 (p0 k) (s0 k) k (hp0 k) (hs0 k) m _
    · exact half 1 (p1 k) (s1 k) k (hp1 k) (hs1 k) m _
  have all : ∀ n (hn : n ≤ 18), st n (ix2 b col) = st 0 (ix2 b col)
      + ∑ k : Fin n, ∑ m : Fin 256, xp (ix2 b ⟨256 * k.val + m.val, by omega⟩)
        * weight wt sc (q ⟨col.val / 128, by omega⟩) ⟨256 * k.val + m.val, by omega⟩ ⟨col.val % 128, Nat.mod_lt _ (by decide)⟩ := by
    intro n
    induction n with
    | zero => intro _; rw [Fin.sum_univ_zero, add_zero]
    | succ n ih =>
      intro hn
      rw [step ⟨n, hn⟩, ih (by omega), Fin.sum_univ_castSucc (n := n), add_assoc]
      rfl
  rw [all 18 (Nat.le_refl _)]
  refine congrArg (st 0 (ix2 b col) + ·) ?_
  exact sum_steps fun n => xp (ix2 b n) * weight wt sc (q ⟨col.val / 128, by omega⟩) n ⟨col.val % 128, Nat.mod_lt _ (by decide)⟩

end Cert.KernelIdeal.Hand

end
-- ==== Proof.Scale.lean ====
/- The scales of one quarter of a half tile: for each of 72 blocks and 128 rows of weights, the block's code times the scale of the
   group of 256 codes it lies in, plus the offset. -/
module

public import proofs.«01_k».proof.Proof.Mult

@[expose] public section

noncomputable section

namespace Cert.KernelIdeal.Hand

open Idealize.ShloMosaic Cert.KernelIdeal.Gen

variable {F : FTy → Type} [FloatOps F]

/-- The first group of a lane's 72 codes, counted from the quarter's first. -/
def firstW : IVec S1x128 32 :=
  shrsi (muli (iota .tc S1x128 32 [1] iota_S1x128_d1_w32) (broadcast S1x128 72#32)) (broadcast S1x128 8#32)
/-- The block at which a lane's codes pass to the next group. -/
def switchW : IVec S1x128 32 :=
  subi (broadcast S1x128 256#32) (andi (muli (iota .tc S1x128 32 [1] iota_S1x128_d1_w32) (broadcast S1x128 72#32)) (broadcast S1x128 255#32))
/-- The group after the first, or the last one. -/
def secondW : IVec S1x128 32 := minsi (addi firstW (broadcast S1x128 1#32)) (broadcast S1x128 35#32)
/-- The first group of a quarter. -/
def baseW (i half q : BitVec 32) : BitVec 32 :=
  Scalar.muli (Scalar.addi (Scalar.muli (Scalar.addi (Scalar.muli i 2#32) half) 4#32) q) 36#32

/-- The scale of group `g` after one in column `col` of a row of 128: from that row or from the next. -/
def pick (g : IVec S1x128 32) (a b : FVec F S1x128 .f32) (col : BitVec 32) : FVec F S1x128 .f32 :=
  select (cmpi .slt (addi g (broadcast S1x128 col)) (broadcast S1x128 128#32))
    (dynamicGather 1 (shapeCast S1x128 a shapeCasts_S1x128_S1x128)
      (shapeCast S1x128 (shapeCast S1x128x1 (andi (addi g (broadcast S1x128 col)) (broadcast S1x128 127#32)) shapeCasts_S1x128_S1x128x1)
        shapeCasts_S1x128x1_S1x128))
    (dynamicGather 1 (shapeCast S1x128 b shapeCasts_S1x128_S1x128)
      (shapeCast S1x128 (shapeCast S1x128x1 (andi (addi g (broadcast S1x128 col)) (broadcast S1x128 127#32)) shapeCasts_S1x128_S1x128x1)
        shapeCasts_S1x128x1_S1x128))

/-- The scales of a quarter, of its codes, the two rows of scales that it needs and the offset. -/
def scl (i half q : BitVec 32) (a b : FVec F S1x128 .f32) (codes : IVec S72x128 8) (off : F .f32) : FVec F S1x72x128 .f32 :=
  shapeCast S1x72x128 (extf .f32 (truncf .bf16 (addf
    (mulf (sitofp .f32 (extsi 32 (shapeCast S72x128 codes shapeCasts_S72x128_S72x128) natLt_8_32))
      (select (cmpi .slt (iota .tc S72x128 32 [0] iota_S72x128_d0_w32) (broadcastTo S72x128 switchW broadcasts_S1x128_S72x128))
        (broadcastTo S72x128 (shapeCast S1x128 (pick firstW a b (Scalar.andi (baseW i half q) 127#32)) shapeCasts_S1x128_S1x128)
          broadcasts_S1x128_S72x128)
        (broadcastTo S72x128 (shapeCast S1x128 (pick secondW a b (Scalar.andi (baseW i half q) 127#32)) shapeCasts_S1x128_S1x128)
          broadcasts_S1x128_S72x128)))
    (broadcast S72x128 off)) bitsLt_bf16_f32) bitsLt_bf16_f32) shapeCasts_S72x128_S1x72x128

/-- The group words of a lane. -/
theorem firstW_apply (l : Fin 128) : firstW (ix2 0 l) = BitVec.ofNat 32 (l.val * 72 / 256) := by
  have h : ∀ l : Fin 128, (BitVec.ofNat 32 l.val * 72#32).sshiftRight' 8#32 = BitVec.ofNat 32 (l.val * 72 / 256) := by decide +kernel
  rw [← h l]
  show IntOp.shrsi .vector (IntOp.muli (iota .tc S1x128 32 [1] iota_S1x128_d1_w32 (ix2 0 l)) 72#32) 8#32 = _
  rw [iota_single_apply]; rfl

/-- The block at which a lane passes from its first group of scales to its second: `256 - 72 l mod 256`. -/
theorem switchW_apply (l : Fin 128) : switchW (ix2 0 l) = BitVec.ofNat 32 (256 - l.val * 72 % 256) := by
  have h : ∀ l : Fin 128, 256#32 - ((BitVec.ofNat 32 l.val * 72#32) &&& 255#32) = BitVec.ofNat 32 (256 - l.val * 72 % 256) := by
    decide +kernel
  rw [← h l]
  show 256#32 - ((iota .tc S1x128 32 [1] iota_S1x128_d1_w32 (ix2 0 l) * 72#32) &&& 255#32) = _
  rw [iota_single_apply]
  rfl

/-- A lane's second group within its quarter: the one after its first, at most the quarter's last, 35. -/
theorem secondW_apply (l : Fin 128) : secondW (ix2 0 l) = BitVec.ofNat 32 (min (l.val * 72 / 256 + 1) 35) := by
  have h : ∀ l : Fin 128, IntOp.minsi (BitVec.ofNat 32 (l.val * 72 / 256) + 1#32) 35#32
      = BitVec.ofNat 32 (min (l.val * 72 / 256 + 1) 35) := by decide +kernel
  rw [← h l, ← firstW_apply]; rfl

/-- A quarter's first group, as a number. -/
theorem baseW_eq (i half q : Nat) :
    baseW (BitVec.ofNat 32 i) (BitVec.ofNat 32 half) (BitVec.ofNat 32 q) = BitVec.ofNat 32 (((i * 2 + half) * 4 + q) * 36) := by
  show ((BitVec.ofNat 32 i * 2#32 + BitVec.ofNat 32 half) * 4#32 + BitVec.ofNat 32 q) * 36#32 = _
  simp only [← BitVec.ofNat_mul, ← BitVec.ofNat_add]

/-- The scale picked, at a lane. -/
theorem pick_apply (g : IVec S1x128 32) (a b : FVec F S1x128 .f32) (col : BitVec 32) (n c : Nat) (l : Fin 128)
    (hg : g (ix2 0 l) = BitVec.ofNat 32 n) (hc : col = BitVec.ofNat 32 c) (hn : n < 36) (hc' : c < 128) :
    pick g a b col (ix2 0 l) = if n + c < 128 then a (ix2 0 ⟨(n + c) % 128, Nat.mod_lt _ (by decide)⟩)
      else b (ix2 0 ⟨(n + c) % 128, Nat.mod_lt _ (by decide)⟩) := by
  have hp : g (ix2 0 l) + col = BitVec.ofNat 32 (n + c) := by rw [hg, hc, ← BitVec.ofNat_add]
  have h1 : ∀ p : Fin 164, IntOp.cmpi .slt (BitVec.ofNat 32 p.val) 128#32 = if p.val < 128 then 1#1 else 0#1 := by decide +kernel
  have h2 : ∀ p : Fin 164, (BitVec.ofNat 32 p.val &&& 127#32).toNat % 128 = p.val % 128 := by decide +kernel
  have e : shapeCast S1x128 (shapeCast S1x128x1 (andi (addi g (broadcast S1x128 col)) (broadcast S1x128 127#32)) shapeCasts_S1x128_S1x128x1)
      shapeCasts_S1x128x1_S1x128 = andi (addi g (broadcast S1x128 col)) (broadcast S1x128 127#32) := shapeCast_shapeCast ..
  unfold pick
  rw [e, shapeCast_self, shapeCast_self]
  have e2 : (fun k : Fin 2 => if k = 1 then ⟨((andi (addi g (broadcast S1x128 col)) (broadcast S1x128 127#32)) (ix2 0 l)).toNat % S1x128.size k, Nat.mod_lt _ (Fin.pos ((ix2 0 l : S1x128.Idx) k))⟩ else (ix2 0 l : S1x128.Idx) k : S1x128.Idx)
      = ix2 0 ⟨(n + c) % 128, Nat.mod_lt _ (by decide)⟩ := by
    funext k
    fin_cases k
    · rfl
    · refine Fin.ext ?_
      show ((g (ix2 0 l) + col) &&& 127#32).toNat % 128 = (n + c) % 128
      rw [hp]; exact h2 ⟨n + c, by omega⟩
  have e3 : cmpi .slt (addi g (broadcast S1x128 col)) (broadcast S1x128 128#32) (ix2 0 l) = if n + c < 128 then 1#1 else 0#1 := by
    show IntOp.cmpi .slt (g (ix2 0 l) + col) 128#32 = _
    rw [hp]; exact h1 ⟨n + c, by omega⟩
  rw [ValueIdx.select_apply, e3, dynamicGather_apply, dynamicGather_apply, e2]
  split <;> rfl

/-- The scales of a quarter at a block and a row of weights: the code times the scale of its group, plus the offset. Group `j` counts
    all codes in order, 256 to a group; the scales are kept in 81 rows of 128. -/
theorem scl_apply (i half q : Nat) (hi : i < 36) (hh : half < 2) (hq : q < 4) (S : S81x128.Idx → EReal) (a b : FVec Ideal S1x128 .f32)
    (ha : ∀ l : Fin 128, a (ix2 0 l) = S (ix2 ⟨((i * 2 + half) * 4 + q) * 36 / 128, by omega⟩ l))
    (hb : ∀ l : Fin 128, b (ix2 0 l) = S (ix2 ⟨min (((i * 2 + half) * 4 + q) * 36 / 128 + 1) 80, by omega⟩ l))
    (codes : IVec S72x128 8) (off : Ideal .f32) (k : Fin 72) (l : Fin 128) (j : Nat)
    (hj : j = ((((i * 2 + half) * 4 + q) * 128 + l.val) * 72 + k.val) / 256) :
    scl (BitVec.ofNat 32 i) (BitVec.ofNat 32 half) (BitVec.ofNat 32 q) a b codes off (ix3 0 k l)
      = FloatOps.sitofp (F := Ideal) .f32 ((codes (ix2 k l)).signExtend 32) * S (ix2 ⟨j / 128, by omega⟩ ⟨j % 128, by omega⟩) + off := by
  have hcol : Scalar.andi (baseW (BitVec.ofNat 32 i) (BitVec.ofNat 32 half) (BitVec.ofNat 32 q)) 127#32
      = BitVec.ofNat 32 ((((i * 2 + half) * 4 + q) * 36) % 128) := by
    rw [baseW_eq]
    have hX : ((i * 2 + half) * 4 + q) * 36 < 10368 := by omega
    revert hX
    generalize ((i * 2 + half) * 4 + q) * 36 = X
    intro hX
    show BitVec.ofNat 32 _ &&& 127#32 = _
    apply BitVec.eq_of_toNat_eq
    rw [BitVec.toNat_and, BitVec.toNat_ofNat, BitVec.toNat_ofNat, BitVec.toNat_ofNat]
    rw [show 127 % 2 ^ 32 = 2 ^ 7 - 1 from rfl, Nat.and_two_pow_sub_one_eq_mod]
    omega
  have hbr : ∀ {α : Type} (v : S1x128.Idx → α), broadcastTo S72x128 v broadcasts_S1x128_S72x128 (ix2 k l) = v (ix2 0 l) :=
    fun v => broadcastTo_apply (k := ix2 0 l) (hk := by intro a; fin_cases a <;> rfl) ..
  have hlt : ∀ (p : Fin 72) (s : Fin 257), IntOp.cmpi .slt (BitVec.ofNat 32 p.val) (BitVec.ofNat 32 s.val) = if p.val < s.val then 1#1 else 0#1 := by
    decide +kernel
  have key : ∀ n : Nat, n < 36 → j = ((i * 2 + half) * 4 + q) * 36 + n →
      (if n + (((i * 2 + half) * 4 + q) * 36) % 128 < 128 then a (ix2 0 ⟨(n + (((i * 2 + half) * 4 + q) * 36) % 128) % 128, Nat.mod_lt _ (by decide)⟩)
        else b (ix2 0 ⟨(n + (((i * 2 + half) * 4 + q) * 36) % 128) % 128, Nat.mod_lt _ (by decide)⟩))
      = S (ix2 ⟨j / 128, by omega⟩ ⟨j % 128, by omega⟩) := by
    intro n hn hjn
    split
    · rw [ha]; exact congrArg S (congrArg₂ ix2 (Fin.ext (by dsimp only; omega)) (Fin.ext (by dsimp only; omega)))
    · rw [hb]; exact congrArg S (congrArg₂ ix2 (Fin.ext (by dsimp only; omega)) (Fin.ext (by dsimp only; omega)))
  have hsc : shapeCasts_S72x128_S1x72x128 = shapeCasts_S72x128_S1x72x128 := rfl
  unfold scl
  rw [shapeCast_addUnit_apply (n := 2) (d := ![72, 128])]
  have hix : (fun a => (ix3 0 k l : S1x72x128.Idx) a.succ : S72x128.Idx) = ix2 k l := by funext a; fin_cases a <;> rfl
  rw [hix, ValueIdx.extf_apply, ValueIdx.truncf_apply, ValueIdx.addf_apply, ValueIdx.mulf_apply, ValueIdx.select_apply, hbr, hbr, shapeCast_self, shapeCast_self, shapeCast_self,
    pick_apply (n := l.val * 72 / 256) (hg := firstW_apply l) (hc := hcol) (hn := by omega) (hc' := Nat.mod_lt _ (by decide)),
    pick_apply (n := min (l.val * 72 / 256 + 1) 35) (hg := secondW_apply l) (hc := hcol) (hn := by omega) (hc' := Nat.mod_lt _ (by decide))]
  have hcmp : cmpi .slt (iota .tc S72x128 32 [0] iota_S72x128_d0_w32) (broadcastTo S72x128 switchW broadcasts_S1x128_S72x128) (ix2 k l)
      = if k.val < 256 - l.val * 72 % 256 then 1#1 else 0#1 := by
    show IntOp.cmpi .slt (iota .tc S72x128 32 [0] iota_S72x128_d0_w32 (ix2 k l)) (broadcastTo S72x128 switchW broadcasts_S1x128_S72x128 (ix2 k l)) = _
    rw [hbr, switchW_apply, iota_single_apply]
    exact hlt k ⟨256 - l.val * 72 % 256, by omega⟩
  rw [hcmp]
  show _ * _ + off = _ * _ + off
  congr 2
  by_cases hk : k.val < 256 - l.val * 72 % 256
  · rw [if_pos hk]
    exact key _ (by omega) (by omega)
  · rw [if_neg hk]
    exact key _ (by omega) (by omega)

end Cert.KernelIdeal.Hand

end
-- ==== Proof.Load.lean ====
/- What a load of a half tile leaves in the scratch buffers: the weights turned to columns of rows, and their scales. -/
module

public import proofs.«01_k».proof.Proof.Scale
public import proofs.«01_k».proof.Proof.Gen.KernelIdeal.Frame

@[expose] public section

set_option maxRecDepth 16384

noncomputable section

namespace Cert.KernelIdeal.Hand

open Idealize.ShloMosaic Cert.KernelIdeal.Gen

/-- The entries of a table from the last to the first. -/
def downFrom {α : Type} {N : Nat} (f : Fin N → α) : (n : Nat) → n ≤ N → List α
  | 0, _ => []
  | n + 1, h => f ⟨n, h⟩ :: downFrom f n (Nat.le_of_succ_le h)

/-- The members of that list are entries of the table. -/
theorem mem_downFrom {α : Type} {N : Nat} (f : Fin N → α) (p : α) : ∀ (n : Nat) (h : n ≤ N), p ∈ downFrom f n h → ∃ k, p = f k
  | 0, _, hp => absurd hp List.not_mem_nil
  | n + 1, h, hp => by
    rcases List.mem_cons.1 hp with e | hp
    · exact ⟨_, e⟩
    · exact mem_downFrom f p n _ hp

/-- Every entry is a member. -/
theorem downFrom_mem {α : Type} {N : Nat} (f : Fin N → α) (k : Fin N) : ∀ (n : Nat) (h : n ≤ N), k.val < n → f k ∈ downFrom f n h
  | 0, _, hk => absurd hk (Nat.not_lt_zero _)
  | n + 1, h, hk => by
    rcases Nat.lt_succ_iff_lt_or_eq.1 hk with hk | hk
    · exact List.mem_cons_of_mem _ (downFrom_mem f k n _ hk)
    · subst hk; exact List.mem_cons_self

/-- A square of packed weights as it is stored: turned over. -/
def wtPay (w : IVec S128x128 8) : IVec S1x128x128 8 :=
  shapeCast S1x128x128 (transpose S128x128 [1, 0] w transposes_S128x128_p1_0_S128x128) shapeCasts_S128x128_S1x128x128

/-- The `k`-th square of a half tile: lane group `k / 18`, packed rows from `128 * (k % 18)`. -/
def wtPiece (half : Fin 2) (arg3 : Memref sig .tc .vmem S1024x2304 .i8) (harg3 : arg3.IsWhole) (w : Vec Ideal S1024x2304 .i8) (k : Fin 72) :
    View.Piece (Elt Ideal) S4x2304x128 .i8 :=
  ⟨Rect.unit (s := S4x2304x128) ![k.val / 18, 128 * (k.val % 18), 0] S1x128x128.size
      (by intro a; have := k.isLt; fin_cases a <;> simp [S4x2304x128, S1x128x128] <;> omega),
    wtPay (View.readAt (Elt Ideal) arg3.view (Rect.unit (s := S1024x2304) ![512 * half.val + 128 * (k.val / 18), 128 * (k.val % 18)] S128x128.size
      (by intro a; have := k.isLt; have := half.isLt; fin_cases a <;> simp [S1024x2304, S128x128] <;> omega)).toLoadRect (harg3.unread w))⟩

/-- The columns of a lane group of activations, in the order the multiply wants them. -/
def xpPay (x : FVec Ideal S16x128 .bf16) : FVec Ideal S16x128 .bf16 :=
  k0_pay268 k0_pay223 x

/-- The `k`-th lane group of activations. -/
def xpPiece (arg2 : Memref sig .tc .vmem S16x4608 .bf16) (harg2 : arg2.IsWhole) (x : Vec Ideal S16x4608 .bf16) (k : Fin 36) :
    View.Piece (Elt Ideal) S16x4608 .bf16 :=
  ⟨Rect.unit (s := S16x4608) ![0, 128 * k.val] S16x128.size (by intro a; have := k.isLt; fin_cases a <;> simp [S16x4608, S16x128] <;> omega),
    xpPay (View.readAt (Elt Ideal) arg2.view (Rect.unit (s := S16x4608) ![0, 128 * k.val] S16x128.size
      (by intro a; have := k.isLt; fin_cases a <;> simp [S16x4608, S16x128] <;> omega)).toLoadRect (harg2.unread x))⟩

/-- The row of scales that a quarter's first group lies in. -/
def rowOff (i half q : BitVec 32) : Nat := (Scalar.indexCast (Scalar.shrsi (baseW i half q) 7#32)).toNat
/-- The row after, or the last one. -/
def nextOff (i half q : BitVec 32) : Nat :=
  (Scalar.indexCast (Scalar.minsi (Scalar.addi (Scalar.shrsi (baseW i half q) 7#32) 1#32) 80#32)).toNat

/-- The scales of quarter `k` of a half tile. -/
def scPiece (i : BitVec 32) (half : Fin 2) (arg1 : Memref sig .tc .smem S1 .f32) (harg1 : arg1.IsWhole)
    (arg4 : Memref sig .tc .vmem S72x1024 .i8) (harg4 : arg4.IsWhole) (arg5 : Memref sig .tc .vmem S81x128 .f32) (harg5 : arg5.IsWhole)
    (hr : ∀ q : Fin 4, ∀ a, (![rowOff i (BitVec.ofNat 32 half.val) (BitVec.ofNat 32 q.val), 0] : Fin 2 → Nat) a + S1x128.size a ≤ S81x128.size a)
    (hn : ∀ q : Fin 4, ∀ a, (![nextOff i (BitVec.ofNat 32 half.val) (BitVec.ofNat 32 q.val), 0] : Fin 2 → Nat) a + S1x128.size a ≤ S81x128.size a)
    (x0 : Vec Ideal S1 .f32) (x3 : Vec Ideal S72x1024 .i8) (x4 : Vec Ideal S81x128 .f32) (k : Fin 4) :
    View.Piece (Elt Ideal) S4x72x128 .f32 :=
  ⟨Rect.unit (s := S4x72x128) ![k.val, 0, 0] S1x72x128.size (by intro a; have := k.isLt; fin_cases a <;> simp [S4x72x128, S1x72x128] <;> omega),
    scl (F := Ideal) i (BitVec.ofNat 32 half.val) (BitVec.ofNat 32 k.val)
      (View.readAt (Elt Ideal) arg5.view (Rect.unit (s := S81x128) ![rowOff i (BitVec.ofNat 32 half.val) (BitVec.ofNat 32 k.val), 0] S1x128.size (hr k)).toLoadRect (harg5.unread x4))
      (View.readAt (Elt Ideal) arg5.view (Rect.unit (s := S81x128) ![nextOff i (BitVec.ofNat 32 half.val) (BitVec.ofNat 32 k.val), 0] S1x128.size (hn k)).toLoadRect (harg5.unread x4))
      (View.readAt (Elt Ideal) arg4.view (Rect.unit (s := S72x1024) ![0, 512 * half.val + 128 * k.val] S72x128.size
        (by intro a; have := k.isLt; have := half.isLt; fin_cases a <;> simp [S72x1024, S72x128] <;> omega)).toLoadRect (harg4.unread x3))
      (View.readAt (Elt Ideal) arg1.view (Rect.unit (s := S1) ![0] S1.size inb_S1_S1_0).toLoadRect (harg1.unread x0) (Shape.Idx.first (by decide)))⟩

section Lists
variable (c : Dev nD) (i : grid0.Coords)
variable
  (arg1 : Memref sig .tc .smem S1 .f32) (harg1 : arg1.IsWhole) (arg2 : Memref sig .tc .vmem S16x4608 .bf16)
  (harg2 : arg2.IsWhole) (arg3 : Memref sig .tc .vmem S1024x2304 .i8) (harg3 : arg3.IsWhole)
  (arg4 : Memref sig .tc .vmem S72x1024 .i8) (harg4 : arg4.IsWhole) (arg5 : Memref sig .tc .vmem S81x128 .f32)
  (harg5 : arg5.IsWhole) (arg6 : Memref sig .tc .vmem S16x1024 .bf16) (harg6 : arg6.IsWhole)
  (arg7 : Memref sig .tc .vmem S16x4608 .bf16) (harg7 : arg7.IsWhole) (arg8 : Memref sig .tc .vmem S4x2304x128 .i8)
  (harg8 : arg8.IsWhole) (arg9 : Memref sig .tc .vmem S4x2304x128 .i8) (harg9 : arg9.IsWhole)
  (arg10 : Memref sig .tc .vmem S4x72x128 .f32) (harg10 : arg10.IsWhole) (arg11 : Memref sig .tc .vmem S4x72x128 .f32)
  (harg11 : arg11.IsWhole) (arg12 : Memref sig .tc .vmem S16x512 .bf16) (harg12 : arg12.IsWhole)
variable (x0 : Vec Ideal S1 .f32) (x1 : Vec Ideal S16x4608 .bf16) (x2 : Vec Ideal S1024x2304 .i8) (x3 : Vec Ideal S72x1024 .i8)
  (x4 : Vec Ideal S81x128 .f32) (xs0 : Vec Ideal S16x4608 .bf16) (xs2 : Vec Ideal S4x2304x128 .i8) (xs4 : Vec Ideal S4x72x128 .f32)
  (xs5 : Vec Ideal S16x512 .bf16)

/-- The weights of half 0 at a first point. -/
theorem HS1_A : kernelRun0_A.sl.HS1_72 c arg3 harg3 x2 = downFrom (wtPiece 0 arg3 harg3 x2) 72 le_rfl := rfl
/-- The weights of half 0 at a middle point. -/
theorem HS1_B : kernelRun0_B.sl.HS1_72 c arg3 harg3 x2 = downFrom (wtPiece 0 arg3 harg3 x2) 72 le_rfl := rfl
/-- The activations, permuted at a first point. -/
theorem HS0_A : kernelRun0_A.sl.HS0_36 (F := Ideal) c arg2 harg2 x1 = downFrom (xpPiece arg2 harg2 x1) 36 le_rfl := rfl
/-- The scales of half 0 at a first point. -/
theorem HS3_A (hc0 : cond0_0 i) (hr) (hn) : kernelRun0_A.sl.HS3_4 (F := Ideal) c i arg1 harg1 arg4 harg4 arg5 harg5 hc0 x0 x3 x4
    = downFrom (scPiece (BitVec.ofNat 32 (i 0).val) 0 arg1 harg1 arg4 harg4 arg5 harg5 hr hn x0 x3 x4) 4 le_rfl := by
  rfl
/-- The scales of half 0 at a middle point. -/
theorem HS3_B (hc1 : cond0_1 i) (hr) (hn) : kernelRun0_B.sl.HS3_4 (F := Ideal) c i arg1 harg1 arg4 harg4 arg5 harg5 hc1 x0 x3 x4
    = downFrom (scPiece (BitVec.ofNat 32 (i 0).val) 0 arg1 harg1 arg4 harg4 arg5 harg5 hr hn x0 x3 x4) 4 le_rfl := by
  rfl

/-- What a first point writes: nothing to the output; the activations, and half 1 of its tile's weights and scales. -/
theorem lists_A (hc0 : cond0_0 i) (hc1 : ¬cond0_1 i) (hc2 : ¬cond0_2 i) (hr) (hn) :
    (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.1 = downFrom (xpPiece arg2 harg2 x1) 36 le_rfl
    ∧ (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.2.1 = downFrom (wtPiece 1 arg3 harg3 x2) 72 le_rfl
    ∧ (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.2.2.1
      = downFrom (scPiece (BitVec.ofNat 32 (i 0).val) 1 arg1 harg1 arg4 harg4 arg5 harg5 hr hn x0 x3 x4) 4 le_rfl := by
  unfold kernelRun0_A
  dsimp only
  refine ⟨?_, ?_, ?_⟩
  · rfl
  · rfl
  · sl_kernel_rfl

/-- What a middle point writes to the scratch of half 1: its tile's weights and scales. -/
theorem lists_B (hc0 : ¬cond0_0 i) (hc1 : cond0_1 i) (hc2 : ¬cond0_2 i) (hr) (hn) :
    (kernelRun0_B (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5).2.2.1 = downFrom (wtPiece 1 arg3 harg3 x2) 72 le_rfl
    ∧ (kernelRun0_B (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5).2.2.2.1
      = downFrom (scPiece (BitVec.ofNat 32 (i 0).val) 1 arg1 harg1 arg4 harg4 arg5 harg5 hr hn x0 x3 x4) 4 le_rfl := by
  unfold kernelRun0_B
  dsimp only
  refine ⟨rfl, ?_⟩
  sl_kernel_rfl
end Lists

end Cert.KernelIdeal.Hand

end
-- ==== Proof.Scratch.lean ====
/- The contents of the scratch buffers after a load, entry by entry. -/
module

public import proofs.«01_k».proof.Proof.Load
public import proofs.«01_k».proof.Proof.Mult

@[expose] public section

noncomputable section

namespace Cert.KernelIdeal.Hand

open Idealize.ShloMosaic Cert.KernelIdeal.Gen

/-- A view written with every piece of a table that covers it reads the array of which each piece is a part. -/
theorem read_pieces {κ : Kind} {sp : Space} {s : Shape} {e : EltTy} (v : View sig κ sp s e) (f : v.ty.Contents (Elt Ideal)) {N : Nat}
    (P : Fin N → View.Piece (Elt Ideal) s e) (G : s.Idx → Elt Ideal e) (hv : ∀ k x, (P k).2 x = G ((P k).1.emb x))
    (hc : ∀ y, ∃ k, y ∈ (P k).1.set) : v.read (Elt Ideal) (v.writes (Elt Ideal) f (downFrom P N le_rfl)) = G := by
  have cover : ∀ y, ∃ p ∈ downFrom P N le_rfl, y ∈ p.1.set := fun y => by
    obtain ⟨k, hk⟩ := hc y
    exact ⟨P k, downFrom_mem P k N le_rfl k.isLt, hk⟩
  rw [View.read_writes_eq_canon _ _ _ cover]
  funext y
  refine View.canon_apply_of_pieces G _ (fun p hp x => ?_) y (cover y)
  obtain ⟨k, rfl⟩ := mem_downFrom P p N le_rfl hp
  exact hv k x

/-- Half a tile of weights: entry (q, r, l) is packed row `r` of weight row `128 q + l` of the half. -/
def wtArr (half : Fin 2) (w : S1024x2304.Idx → BitVec 8) : S4x2304x128.Idx → BitVec 8 := fun y =>
  w (ix2 ⟨512 * half.val + 128 * (y 0).val + (y 2).val, by
    have h0 : (y 0).val < 4 := (y 0).isLt
    have h2 : (y 2).val < 128 := (y 2).isLt
    omega⟩ (y 1))

/-- A stored square, entry by entry. -/
theorem wtPay_apply (w : IVec S128x128 8) (x : S1x128x128.Idx) : wtPay w x = w (ix2 (x 2) (x 1)) := by
  unfold wtPay
  rw [shapeCast_addUnit_apply (n := 2) (d := ![128, 128])]
  exact transpose_apply (s := S128x128) (t := S128x128) [1, 0] w transposes_S128x128_p1_0_S128x128 (fun a => x a.succ)
    (ix2 (x 2) (x 1)) (by intro b; fin_cases b <;> rfl)

/-- The weights after a load. -/
theorem wt_read {κ : Kind} {sp : Space} (v : View sig κ sp S4x2304x128 .i8) (f : v.ty.Contents (Elt Ideal)) (half : Fin 2)
    (arg3 : Memref sig .tc .vmem S1024x2304 .i8) (harg3 : arg3.IsWhole) (w : Vec Ideal S1024x2304 .i8) :
    v.read (Elt Ideal) (v.writes (Elt Ideal) f (downFrom (wtPiece half arg3 harg3 w) 72 le_rfl)) = wtArr half w := by
  have val : ∀ (k : Fin 72) (x : S1x128x128.Idx),
      (wtPiece half arg3 harg3 w k).2 x = wtArr half w ((wtPiece half arg3 harg3 w k).1.emb x) := by
    intro k x
    have hx0 : (x 0).val < 1 := (x 0).isLt
    have hx1 : (x 1).val < 128 := (x 1).isLt
    have hx2 : (x 2).val < 128 := (x 2).isLt
    have inb : ∀ a, (![512 * half.val + 128 * (k.val / 18), 128 * (k.val % 18)] : Fin 2 → Nat) a + S128x128.size a ≤ S1024x2304.size a := by
      intro a; have := k.isLt; have := half.isLt; fin_cases a <;> simp [S1024x2304, S128x128] <;> omega
    refine (wtPay_apply (View.readAt (Elt Ideal) arg3.view (Rect.unit (s := S1024x2304)
      ![512 * half.val + 128 * (k.val / 18), 128 * (k.val % 18)] S128x128.size inb).toLoadRect (harg3.unread w)) x).trans ?_
    refine (readAt_unit arg3.view (harg3.unread w) ![512 * half.val + 128 * (k.val / 18), 128 * (k.val % 18)] S128x128.size _
      (ix2 (x 2) (x 1)) (ix2 ⟨512 * half.val + 128 * (k.val / 18) + (x 2).val, by omega⟩ ⟨128 * (k.val % 18) + (x 1).val, by omega⟩)
      (by intro a; fin_cases a <;> rfl)).trans ?_
    rw [harg3.read_unread]
    unfold wtArr
    refine congrArg w ?_
    funext a
    fin_cases a
    · refine Fin.ext ?_
      show 512 * half.val + 128 * (k.val / 18) + (x 2).val
        = 512 * half.val + 128 * (k.val / 18 + 1 * (x 0).val) + (0 + 1 * (x 2).val)
      omega
    · refine Fin.ext ?_
      show 128 * (k.val % 18) + (x 1).val = 128 * (k.val % 18) + 1 * (x 1).val
      omega
  refine read_pieces v f _ _ val (fun y => ?_)
  · have h0 : (y 0).val < 4 := (y 0).isLt
    have h1 : (y 1).val < 2304 := (y 1).isLt
    have h2 : (y 2).val < 128 := (y 2).isLt
    refine ⟨⟨18 * (y 0).val + (y 1).val / 128, by omega⟩, ?_⟩
    unfold wtPiece
    rw [Rect.mem_set_unit]
    intro a
    fin_cases a
    · show (18 * (y 0).val + (y 1).val / 128) / 18 ≤ (y 0).val ∧ (y 0).val < (18 * (y 0).val + (y 1).val / 128) / 18 + 1
      omega
    · show 128 * ((18 * (y 0).val + (y 1).val / 128) % 18) ≤ (y 1).val ∧ (y 1).val < 128 * ((18 * (y 0).val + (y 1).val / 128) % 18) + 128
      omega
    · show 0 ≤ (y 2).val ∧ (y 2).val < 0 + 128
      omega

/-- The column of the activations that column `n` of their permuted copy holds. -/
def permCol (n : Fin 4608) : Fin 4608 := ⟨n.val / 64 * 64 + (4 * (n.val % 16) + n.val / 16 % 4), by omega⟩

/-- The permuted activations. -/
def xpArr (x : S16x4608.Idx → EReal) : S16x4608.Idx → EReal := fun y => x (ix2 (y 0) (permCol (y 1)))

/-- The word that says where a lane's column is found in its lane group. -/
theorem pay223_apply (b : Fin 16) (l : Fin 128) :
    (k0_pay223 (ix2 b l)).toNat % 128 = l.val / 64 * 64 + (4 * (l.val % 16) + l.val / 16 % 4) := by
  have h : ∀ l : Fin 128, ((BitVec.ofNat 32 l.val &&& 64#32) + 4#32 * (BitVec.ofNat 32 l.val &&& 15#32)
      + (IntOp.shrsi .vector (BitVec.ofNat 32 l.val) 4#32 &&& 3#32)).toNat % 128 = l.val / 64 * 64 + (4 * (l.val % 16) + l.val / 16 % 4) := by
    decide +kernel
  rw [← h l]
  have e : iota .tc S16x128 32 [1] iota_S16x128_d1_w32 (ix2 b l) = BitVec.ofNat 32 l.val := iota_single_apply ..
  rw [← e]
  rfl

/-- The activations after their permutation. -/
theorem xp_read {κ : Kind} {sp : Space} (v : View sig κ sp S16x4608 .bf16) (f : v.ty.Contents (Elt Ideal))
    (arg2 : Memref sig .tc .vmem S16x4608 .bf16) (harg2 : arg2.IsWhole) (x : Vec Ideal S16x4608 .bf16) :
    v.read (Elt Ideal) (v.writes (Elt Ideal) f (downFrom (xpPiece arg2 harg2 x) 36 le_rfl)) = xpArr x := by
  have val : ∀ (k : Fin 36) (z : S16x128.Idx),
      (xpPiece arg2 harg2 x k).2 z = xpArr x ((xpPiece arg2 harg2 x k).1.emb z) := by
    intro k z
    have hz0 : (z 0).val < 16 := (z 0).isLt
    have hz1 : (z 1).val < 128 := (z 1).isLt
    have e : shapeCast S16x128 (shapeCast S16x128x1 k0_pay223 shapeCasts_S16x128_S16x128x1) shapeCasts_S16x128x1_S16x128 = k0_pay223 :=
      shapeCast_shapeCast ..
    have key : ∀ (v : FVec Ideal S16x128 .bf16) (z : S16x128.Idx), xpPay v z = v fun b =>
        if b = 1 then ⟨(k0_pay223 z).toNat % S16x128.size b, Nat.mod_lt _ (Fin.pos (z b))⟩ else z b := fun v z => by
      show shapeCast S16x128 (truncf .bf16 (dynamicGather 1 (extf .f32 (shapeCast S16x128 v shapeCasts_S16x128_S16x128) bitsLt_bf16_f32)
        (shapeCast S16x128 (shapeCast S16x128x1 k0_pay223 shapeCasts_S16x128_S16x128x1) shapeCasts_S16x128x1_S16x128)) bitsLt_bf16_f32)
          shapeCasts_S16x128_S16x128 z = _
      rw [e, shapeCast_self, shapeCast_self]
      rfl
    have hp := pay223_apply (z 0) (z 1)
    have hz : ix2 (n0 := 16) (n1 := 128) (z 0) (z 1) = z := by funext a; fin_cases a <;> rfl
    rw [hz] at hp
    refine (key _ z).trans ((readAt_unit arg2.view (harg2.unread x) ![0, 128 * k.val] S16x128.size _ _
      (ix2 ⟨(z 0).val, hz0⟩ (permCol ⟨128 * k.val + (z 1).val, by omega⟩)) (fun a => ?_)).trans ?_)
    · fin_cases a
      · exact (Nat.zero_add _).symm
      · show (128 * k.val + (z 1).val) / 64 * 64 + (4 * ((128 * k.val + (z 1).val) % 16) + (128 * k.val + (z 1).val) / 16 % 4)
          = 128 * k.val + (k0_pay223 z).toNat % 128
        rw [hp]
        have e1 : (128 * k.val + (z 1).val) / 64 = 2 * k.val + (z 1).val / 64 := by omega
        have e2 : (128 * k.val + (z 1).val) % 16 = (z 1).val % 16 := by omega
        have e3 : (128 * k.val + (z 1).val) / 16 % 4 = (z 1).val / 16 % 4 := by omega
        rw [e1, e2, e3]
        omega
    rw [harg2.read_unread]
    unfold xpArr
    refine congrArg x (congrArg₂ (ix2 (n0 := 16) (n1 := 4608)) (Fin.ext ?_) (congrArg permCol (Fin.ext ?_)))
    · show (z 0).val = 0 + 1 * (z 0).val
      omega
    · show 128 * k.val + (z 1).val = 128 * k.val + 1 * (z 1).val
      omega
  refine read_pieces v f _ _ val (fun y => ?_)
  · have h0 : (y 0).val < 16 := (y 0).isLt
    have h1 : (y 1).val < 4608 := (y 1).isLt
    refine ⟨⟨(y 1).val / 128, by omega⟩, ?_⟩
    unfold xpPiece
    rw [Rect.mem_set_unit]
    intro a
    fin_cases a
    · show 0 ≤ (y 0).val ∧ (y 0).val < 0 + 16
      omega
    · show 128 * ((y 1).val / 128) ≤ (y 1).val ∧ (y 1).val < 128 * ((y 1).val / 128) + 128
      omega

/-- The row of scales that a quarter's first group lies in, as a number. -/
theorem rowOff_eq (i : Fin 36) (half : Fin 2) (q : Fin 4) :
    rowOff (BitVec.ofNat 32 i.val) (BitVec.ofNat 32 half.val) (BitVec.ofNat 32 q.val) = ((i.val * 2 + half.val) * 4 + q.val) * 36 / 128 := by
  revert i half q
  decide +kernel

/-- The row after it, as a number. -/
theorem nextOff_eq (i : Fin 36) (half : Fin 2) (q : Fin 4) :
    nextOff (BitVec.ofNat 32 i.val) (BitVec.ofNat 32 half.val) (BitVec.ofNat 32 q.val)
      = min (((i.val * 2 + half.val) * 4 + q.val) * 36 / 128 + 1) 80 := by
  revert i half q
  decide +kernel

/-- Both rows are rows of the scales. -/
theorem rowOff_inb (i : Fin 36) (half : Fin 2) (q : Fin 4) (a : Fin 2) :
    (![rowOff (BitVec.ofNat 32 i.val) (BitVec.ofNat 32 half.val) (BitVec.ofNat 32 q.val), 0] : Fin 2 → Nat) a + S1x128.size a ≤ S81x128.size a := by
  rw [rowOff_eq]
  fin_cases a
  · show ((i.val * 2 + half.val) * 4 + q.val) * 36 / 128 + 1 ≤ 81
    omega
  · exact le_rfl

/-- The row after it, where there is one, is a row of the scales too. -/
theorem nextOff_inb (i : Fin 36) (half : Fin 2) (q : Fin 4) (a : Fin 2) :
    (![nextOff (BitVec.ofNat 32 i.val) (BitVec.ofNat 32 half.val) (BitVec.ofNat 32 q.val), 0] : Fin 2 → Nat) a + S1x128.size a ≤ S81x128.size a := by
  rw [nextOff_eq]
  fin_cases a
  · show min (((i.val * 2 + half.val) * 4 + q.val) * 36 / 128 + 1) 80 + 1 ≤ 81
    omega
  · exact le_rfl

/-- Half a tile of scales: entry (q, b, l) is the scale of block `b` of weight row `128 q + l` of the half: its code times the scale of
    its group, plus the offset. -/
def scArr (i : Fin 36) (half : Fin 2) (off : S1.Idx → EReal) (codes : S72x1024.Idx → BitVec 8) (s : S81x128.Idx → EReal) :
    S4x72x128.Idx → EReal := fun y =>
  have h0 : (y 0).val < 4 := (y 0).isLt
  have h1 : (y 1).val < 72 := (y 1).isLt
  have h2 : (y 2).val < 128 := (y 2).isLt
  FloatOps.sitofp (F := Ideal) .f32
      ((codes (ix2 (y 1) ⟨512 * half.val + 128 * (y 0).val + (y 2).val, by omega⟩)).signExtend 32)
    * s (ix2 ⟨((((i.val * 2 + half.val) * 4 + (y 0).val) * 128 + (y 2).val) * 72 + (y 1).val) / 256 / 128, by omega⟩
        ⟨((((i.val * 2 + half.val) * 4 + (y 0).val) * 128 + (y 2).val) * 72 + (y 1).val) / 256 % 128, by omega⟩)
    + off (ix1 0)

/-- The scales after a load. -/
theorem sc_read {κ : Kind} {sp : Space} (v : View sig κ sp S4x72x128 .f32) (f : v.ty.Contents (Elt Ideal)) (i : Fin 36) (half : Fin 2)
    (arg1 : Memref sig .tc .smem S1 .f32) (harg1 : arg1.IsWhole) (arg4 : Memref sig .tc .vmem S72x1024 .i8) (harg4 : arg4.IsWhole)
    (arg5 : Memref sig .tc .vmem S81x128 .f32) (harg5 : arg5.IsWhole) (hr) (hn) (x0 : Vec Ideal S1 .f32) (x3 : Vec Ideal S72x1024 .i8)
    (x4 : Vec Ideal S81x128 .f32) :
    v.read (Elt Ideal) (v.writes (Elt Ideal) f
      (downFrom (scPiece (BitVec.ofNat 32 i.val) half arg1 harg1 arg4 harg4 arg5 harg5 hr hn x0 x3 x4) 4 le_rfl)) = scArr i half x0 x3 x4 := by
  have val : ∀ (k : Fin 4) (z : S1x72x128.Idx),
      (scPiece (BitVec.ofNat 32 i.val) half arg1 harg1 arg4 harg4 arg5 harg5 hr hn x0 x3 x4 k).2 z = scArr i half x0 x3 x4 ((scPiece (BitVec.ofNat 32 i.val) half arg1 harg1 arg4 harg4 arg5 harg5 hr hn x0 x3 x4 k).1.emb z) := by
    intro k z
    have hz0 : (z 0).val < 1 := (z 0).isLt
    have hz1 : (z 1).val < 72 := (z 1).isLt
    have hz2 : (z 2).val < 128 := (z 2).isLt
    have hz : (z : S1x72x128.Idx) = ix3 0 (z 1) (z 2) := by
      funext a
      fin_cases a
      · exact Fin.ext (by show (z 0).val = 0; omega)
      · rfl
      · rfl
    show scl _ _ _ _ _ _ _ (z : S1x72x128.Idx) = _
    rw [hz]
    refine (scl_apply i.val half.val k.val i.isLt half.isLt k.isLt x4 _ _ (fun l => ?_) (fun l => ?_) _ _ (z 1) (z 2) _ rfl).trans ?_
    · exact (readAt_unit arg5.view (harg5.unread x4) _ S1x128.size _ _
        (ix2 ⟨((i.val * 2 + half.val) * 4 + k.val) * 36 / 128, by omega⟩ l) (fun a => by
          fin_cases a
          · exact (rowOff_eq i half k).symm
          · exact (Nat.zero_add _).symm)).trans (congrFun (harg5.read_unread x4) _)
    · exact (readAt_unit arg5.view (harg5.unread x4) _ S1x128.size _ _
        (ix2 ⟨min (((i.val * 2 + half.val) * 4 + k.val) * 36 / 128 + 1) 80, by omega⟩ l) (fun a => by
          fin_cases a
          · exact (nextOff_eq i half k).symm
          · exact (Nat.zero_add _).symm)).trans (congrFun (harg5.read_unread x4) _)
    · have r4 := (readAt_unit arg4.view (harg4.unread x3) ![0, 512 * half.val + 128 * k.val] S72x128.size
        (by intro a; have := k.isLt; have := half.isLt; fin_cases a <;> simp [S72x1024, S72x128] <;> omega) (ix2 (z 1) (z 2))
        (ix2 (z 1) ⟨512 * half.val + 128 * k.val + (z 2).val, by omega⟩) (fun a => by
          fin_cases a
          · exact (Nat.zero_add _).symm
          · rfl)).trans (congrFun (harg4.read_unread x3) _)
      have r1 := (readAt_unit arg1.view (harg1.unread x0) ![0] S1.size inb_S1_S1_0 (Shape.Idx.first (by decide)) (ix1 0) (fun a => by
        fin_cases a
        rfl)).trans (congrFun (harg1.read_unread x0) _)
      rw [r4, r1]
      have e0 : k.val = k.val + 1 * (0 : Nat) := by omega
      have e1 : (z 1).val = 0 + 1 * (z 1).val := by omega
      have e2 : (z 2).val = 0 + 1 * (z 2).val := by omega
      have E : (scPiece (BitVec.ofNat 32 i.val) half arg1 harg1 arg4 harg4 arg5 harg5 hr hn x0 x3 x4 k).1.emb (ix3 0 (z 1) (z 2))
          = (ix3 k (z 1) (z 2) : S4x72x128.Idx) := by
        funext a
        refine Fin.ext ?_
        fin_cases a
        · exact e0.symm
        · exact e1.symm
        · exact e2.symm
      exact (congrArg (scArr i half x0 x3 x4) E).symm
  refine read_pieces v f _ _ val (fun y => ?_)
  · have h0 : (y 0).val < 4 := (y 0).isLt
    have h1 : (y 1).val < 72 := (y 1).isLt
    have h2 : (y 2).val < 128 := (y 2).isLt
    refine ⟨⟨(y 0).val, h0⟩, ?_⟩
    unfold scPiece
    rw [Rect.mem_set_unit]
    intro a
    fin_cases a
    · show (y 0).val ≤ (y 0).val ∧ (y 0).val < (y 0).val + 1
      omega
    · show 0 ≤ (y 1).val ∧ (y 1).val < 0 + 72
      omega
    · show 0 ≤ (y 2).val ∧ (y 2).val < 0 + 128
      omega

end Cert.KernelIdeal.Hand

end
-- ==== Proof.MultLoops.lean ====
/- The eight multiply loops: the value each leaves, as the product of the activations by two lane groups of weights. -/
module

public import proofs.«01_k».proof.Proof.Mult

@[expose] public section

set_option maxRecDepth 16384

noncomputable section

namespace Cert.KernelIdeal.Hand

open Idealize.ShloMosaic Cert.KernelIdeal.Gen Idealize.SL.Sem

/-- A load of the box of size `size` at `off`. -/
abbrev box {κ : Kind} {sp : Space} {s : Shape} {e : EltTy} (v : View sig κ sp s e) (f : v.ty.Contents (Elt Ideal))
    (off size : Fin s.rank → Nat) (inb : ∀ a, off a + size a ≤ s.size a) : (Rect.unit off size inb).shape.Idx → Elt Ideal e :=
  View.readAt (Elt Ideal) v (Rect.unit off size inb).toLoadRect f

/-- A multiply loop, from the places of its loads: each trip reads the next 256 columns of the activations and, for each of two lane
    groups, the next 128 rows of packed weights in four blocks of 32 and the next 4 rows of scales. -/
theorem loop_reads {N : Nat} (hN : N = 18) {κ₁ κ₂ κ₃ : Kind} {sp₁ sp₂ sp₃ : Space} (vx : View sig κ₁ sp₁ S16x4608 .bf16)
    (vw : View sig κ₂ sp₂ S4x2304x128 .i8) (vs : View sig κ₃ sp₃ S4x72x128 .f32) (X : vx.ty.Contents (Elt Ideal))
    (W : vw.ty.Contents (Elt Ideal)) (S : vs.ty.Contents (Elt Ideal)) (q : Fin 2 → Fin 4) (ox : Fin N → Fin 2 → Nat)
    (os₀ ow₀ os₁ ow₁ : Fin N → BitVec 32 → Fin 3 → Nat) (hox : ∀ k a, ox k a + S16x256.size a ≤ S16x4608.size a)
    (hos₀ : ∀ (k : Fin N) (r : Fin 4) (a : Fin 3), os₀ k (BitVec.ofNat 32 r.val) a + S1x1x128.size a ≤ S4x72x128.size a)
    (how₀ : ∀ (k : Fin N) (r : Fin 4) (a : Fin 3), ow₀ k (BitVec.ofNat 32 r.val) a + S1x32x128.size a ≤ S4x2304x128.size a)
    (hos₁ : ∀ (k : Fin N) (r : Fin 4) (a : Fin 3), os₁ k (BitVec.ofNat 32 r.val) a + S1x1x128.size a ≤ S4x72x128.size a)
    (how₁ : ∀ (k : Fin N) (r : Fin 4) (a : Fin 3), ow₁ k (BitVec.ofNat 32 r.val) a + S1x32x128.size a ≤ S4x2304x128.size a)
    (ex : ∀ k : Fin N, ox k = ![0, 256 * k.val])
    (es₀ : ∀ (k : Fin N) (r : Fin 4), os₀ k (BitVec.ofNat 32 r.val) = ![(q 0).val, 4 * k.val + r.val, 0])
    (ew₀ : ∀ (k : Fin N) (r : Fin 4), ow₀ k (BitVec.ofNat 32 r.val) = ![(q 0).val, 128 * k.val + 32 * r.val, 0])
    (es₁ : ∀ (k : Fin N) (r : Fin 4), os₁ k (BitVec.ofNat 32 r.val) = ![(q 1).val, 4 * k.val + r.val, 0])
    (ew₁ : ∀ (k : Fin N) (r : Fin 4), ow₁ k (BitVec.ofNat 32 r.val) = ![(q 1).val, 128 * k.val + 32 * r.val, 0])
    (st : Nat → FVec Ideal S16x256 .f32)
    (hs : ∀ k : Fin N, st (k.val + 1) = tripOut (st k.val)
      (box vx X (ox k) S16x256.size (hox k))
      (wcat (box vs S (os₀ k (BitVec.ofNat 32 (0 : Fin 4).val)) S1x1x128.size (hos₀ k 0))
        (box vw W (ow₀ k (BitVec.ofNat 32 (0 : Fin 4).val)) S1x32x128.size (how₀ k 0))
        (box vs S (os₀ k (BitVec.ofNat 32 (1 : Fin 4).val)) S1x1x128.size (hos₀ k 1))
        (box vw W (ow₀ k (BitVec.ofNat 32 (1 : Fin 4).val)) S1x32x128.size (how₀ k 1))
        (box vs S (os₀ k (BitVec.ofNat 32 (2 : Fin 4).val)) S1x1x128.size (hos₀ k 2))
        (box vw W (ow₀ k (BitVec.ofNat 32 (2 : Fin 4).val)) S1x32x128.size (how₀ k 2))
        (box vs S (os₀ k (BitVec.ofNat 32 (3 : Fin 4).val)) S1x1x128.size (hos₀ k 3))
        (box vw W (ow₀ k (BitVec.ofNat 32 (3 : Fin 4).val)) S1x32x128.size (how₀ k 3)))
      (wcat (box vs S (os₁ k (BitVec.ofNat 32 (0 : Fin 4).val)) S1x1x128.size (hos₁ k 0))
        (box vw W (ow₁ k (BitVec.ofNat 32 (0 : Fin 4).val)) S1x32x128.size (how₁ k 0))
        (box vs S (os₁ k (BitVec.ofNat 32 (1 : Fin 4).val)) S1x1x128.size (hos₁ k 1))
        (box vw W (ow₁ k (BitVec.ofNat 32 (1 : Fin 4).val)) S1x32x128.size (how₁ k 1))
        (box vs S (os₁ k (BitVec.ofNat 32 (2 : Fin 4).val)) S1x1x128.size (hos₁ k 2))
        (box vw W (ow₁ k (BitVec.ofNat 32 (2 : Fin 4).val)) S1x32x128.size (how₁ k 2))
        (box vs S (os₁ k (BitVec.ofNat 32 (3 : Fin 4).val)) S1x1x128.size (hos₁ k 3))
        (box vw W (ow₁ k (BitVec.ofNat 32 (3 : Fin 4).val)) S1x32x128.size (how₁ k 3))))
    (b : Fin 16) (col : Fin 256) :
    st N (ix2 b col) = st 0 (ix2 b col)
      + mulRow (vx.read (Elt Ideal) X) (vw.read (Elt Ideal) W) (vs.read (Elt Ideal) S) (q ⟨col.val / 128, by omega⟩) b
          ⟨col.val % 128, Nat.mod_lt _ (by decide)⟩ := by
  refine loop_apply hN _ _ _ q st
    (fun k => box vx X (ox k) S16x256.size (hox k))
    (fun k r => box vw W (ow₀ k (BitVec.ofNat 32 r.val)) S1x32x128.size (how₀ k r))
    (fun k r => box vw W (ow₁ k (BitVec.ofNat 32 r.val)) S1x32x128.size (how₁ k r))
    (fun k r => box vs S (os₀ k (BitVec.ofNat 32 r.val)) S1x1x128.size (hos₀ k r))
    (fun k r => box vs S (os₁ k (BitVec.ofNat 32 r.val)) S1x1x128.size (hos₁ k r))
    hs ?_ ?_ ?_ ?_ ?_ b col
  · exact fun k b c => readAt_unit vx X _ _ (hox k) (ix2 b c) _ (fun a => Eq.trans (by fin_cases a <;> simp [ix2, ix3]) (congrArg (· + _) (congrFun (ex k) a).symm))
  · exact fun k m r l => readAt_unit vw W _ _ (how₀ k m) (ix3 0 r l) _ (fun a => Eq.trans (by fin_cases a <;> simp [ix2, ix3]) (congrArg (· + _) (congrFun (ew₀ k m) a).symm))
  · exact fun k m r l => readAt_unit vw W _ _ (how₁ k m) (ix3 0 r l) _ (fun a => Eq.trans (by fin_cases a <;> simp [ix2, ix3]) (congrArg (· + _) (congrFun (ew₁ k m) a).symm))
  · exact fun k m l => readAt_unit vs S _ _ (hos₀ k m) (ix3 0 0 l) _ (fun a => Eq.trans (by fin_cases a <;> simp [ix2, ix3]) (congrArg (· + _) (congrFun (es₀ k m) a).symm))
  · exact fun k m l => readAt_unit vs S _ _ (hos₁ k m) (ix3 0 0 l) _ (fun a => Eq.trans (by fin_cases a <;> simp [ix2, ix3]) (congrArg (· + _) (congrFun (es₁ k m) a).symm))

/-- The row of words modulo four, which tells the word of a table. -/
def wordOf : IVec S8x128 32 := andi (iota .tc S8x128 32 [0] iota_S8x128_d0_w32) (broadcast S8x128 3#32)
/-- The first two words of the table of low bytes, chosen between. -/
def lowWord : IVec S8x128 32 := select (cmpi .eq wordOf (broadcast S8x128 1#32)) (broadcast S8x128 12205458#32) (broadcast S8x128 3389403776#32)
/-- The third word of the table of low bytes, in every row. -/
def topWord : IVec S8x128 32 := broadcast S8x128 2910594467#32

section

variable (𝒱 : Variants) (c : Dev nD) (bd : Option 𝒱.V) (i : grid0.Coords)
variable
  (arg1 : Memref sig .tc .smem S1 .f32) (harg1 : arg1.IsWhole) (arg2 : Memref sig .tc .vmem S16x4608 .bf16)
  (harg2 : arg2.IsWhole) (arg3 : Memref sig .tc .vmem S1024x2304 .i8) (harg3 : arg3.IsWhole)
  (arg4 : Memref sig .tc .vmem S72x1024 .i8) (harg4 : arg4.IsWhole) (arg5 : Memref sig .tc .vmem S81x128 .f32)
  (harg5 : arg5.IsWhole) (arg6 : Memref sig .tc .vmem S16x1024 .bf16) (harg6 : arg6.IsWhole)
  (arg7 : Memref sig .tc .vmem S16x4608 .bf16) (harg7 : arg7.IsWhole) (arg8 : Memref sig .tc .vmem S4x2304x128 .i8)
  (harg8 : arg8.IsWhole) (arg9 : Memref sig .tc .vmem S4x2304x128 .i8) (harg9 : arg9.IsWhole)
  (arg10 : Memref sig .tc .vmem S4x72x128 .f32) (harg10 : arg10.IsWhole) (arg11 : Memref sig .tc .vmem S4x72x128 .f32)
  (harg11 : arg11.IsWhole) (arg12 : Memref sig .tc .vmem S16x512 .bf16) (harg12 : arg12.IsWhole)
variable (X7 : BufTy.Contents (Elt Ideal) arg7.view.ty) (X8 : BufTy.Contents (Elt Ideal) arg8.view.ty)
  (X9 : BufTy.Contents (Elt Ideal) arg9.view.ty) (X10 : BufTy.Contents (Elt Ideal) arg10.view.ty)
  (X11 : BufTy.Contents (Elt Ideal) arg11.view.ty)

/-- The multiply loop of half 0 at a first point, over the first two lane groups. -/
theorem t1_apply (h : k0_cond1 i = 1#1) (init : FVec Ideal S16x256 .f32) (b : Fin 16) (col : Fin 256) :
    st_k0_t1 (F := Ideal) 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init k0_t1_loop.trips (ix2 b col)
      = init (ix2 b col) + mulRow (arg7.view.read (Elt Ideal) X7) (arg8.view.read (Elt Ideal) X8) (arg10.view.read (Elt Ideal) X10)
          (![0, 1] ⟨col.val / 128, by omega⟩) b ⟨col.val % 128, Nat.mod_lt _ (by decide)⟩ :=
  loop_reads (by decide) arg7.view arg8.view arg10.view X7 X8 X10 ![0, 1] k0_off7 k0_off3 k0_off4 k0_off5 k0_off6
    (fun k => k0_off7_inb i k h) (fun k => k0_off3_inb i k h) (fun k => k0_off4_inb i k h) (fun k => k0_off5_inb i k h)
    (fun k => k0_off6_inb i k h) k0_off7_eq k0_off3_eq k0_off4_eq k0_off5_eq k0_off6_eq
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init)
    (fun k => (st_k0_t1_succ 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init k).trans (by unfold tripR_k0_t1 trip_k0_t1; rfl)) b col

/-- The multiply loop of half 0 at a first point, over the last two lane groups. -/
theorem t2_apply (h : k0_cond1 i = 1#1) (init : FVec Ideal S16x256 .f32) (b : Fin 16) (col : Fin 256) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init k0_t2_loop.trips (ix2 b col)
      = init (ix2 b col) + mulRow (arg7.view.read (Elt Ideal) X7) (arg8.view.read (Elt Ideal) X8) (arg10.view.read (Elt Ideal) X10)
          (![2, 3] ⟨col.val / 128, by omega⟩) b ⟨col.val % 128, Nat.mod_lt _ (by decide)⟩ :=
  loop_reads (by decide) arg7.view arg8.view arg10.view X7 X8 X10 ![2, 3] k0_off12 k0_off8 k0_off9 k0_off10 k0_off11
    (fun k => k0_off12_inb i k h) (fun k => k0_off8_inb i k h) (fun k => k0_off9_inb i k h) (fun k => k0_off10_inb i k h)
    (fun k => k0_off11_inb i k h) k0_off12_eq k0_off8_eq k0_off9_eq k0_off10_eq k0_off11_eq
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init)
    (fun k => (st_k0_t2_succ 𝒱 c bd i arg1 harg1 arg2 harg2 arg3 harg3 arg4 harg4 arg5 harg5 arg6 harg6 arg7 harg7 arg8 harg8 arg9 harg9 arg10 harg10 arg11 harg11 arg12 harg12 h wordOf lowWord topWord X7 X8 X10 init k).trans (by unfold tripR_k0_t2 trip_k0_t2; rfl)) b col

/-- The multiply loop of half 1 at a middle point, over the first two lane groups. -/
theorem t3_apply (h : k0_cond2 i = 1#1) (init : FVec Ideal S16x256 .f32) (b : Fin 16) (col : Fin 256) :
    st_k0_t3 (F := Ideal) 𝒱 c bd i arg1 harg1 arg2 harg2 arg3 harg3 arg4 harg4 arg5 harg5 arg6 harg6 arg7 harg7 arg8 harg8 arg9 harg9 arg10 harg10 arg11 harg11 arg12 harg12 h X7 X9 X11 init k0_t3_loop.trips (ix2 b col)
      = init (ix2 b col) + mulRow (arg7.view.read (Elt Ideal) X7) (arg9.view.read (Elt Ideal) X9) (arg11.view.read (Elt Ideal) X11)
          (![0, 1] ⟨col.val / 128, by omega⟩) b ⟨col.val % 128, Nat.mod_lt _ (by decide)⟩ :=
  loop_reads (by decide) arg7.view arg9.view arg11.view X7 X9 X11 ![0, 1] k0_off17 k0_off13 k0_off14 k0_off15 k0_off16
    (fun k => k0_off17_inb i k h) (fun k => k0_off13_inb i k h) (fun k => k0_off14_inb i k h) (fun k => k0_off15_inb i k h)
    (fun k => k0_off16_inb i k h) k0_off17_eq k0_off13_eq k0_off14_eq k0_off15_eq k0_off16_eq
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 h X7 X9 X11 init)
    (fun k => (st_k0_t3_succ 𝒱 c bd i arg1 harg1 arg2 harg2 arg3 harg3 arg4 harg4 arg5 harg5 arg6 harg6 arg7 harg7 arg8 harg8 arg9 harg9 arg10 harg10 arg11 harg11 arg12 harg12 h X7 X9 X11 init k).trans (by unfold tripR_k0_t3 trip_k0_t3; rfl)) b col

/-- The multiply loop of half 1 at a middle point, over the last two lane groups. -/
theorem t4_apply (h : k0_cond2 i = 1#1) (z z' : FVec Ideal S16x256 .f32) (init : FVec Ideal S16x256 .f32) (b : Fin 16) (col : Fin 256) :
    st_k0_t4 (F := Ideal) 𝒱 c bd i arg1 harg1 arg2 harg2 arg3 harg3 arg4 harg4 arg5 harg5 arg6 harg6 arg7 harg7 arg8 harg8 arg9 harg9 arg10 harg10 arg11 harg11 arg12 harg12 h tabLo tabHi z z' X7 X9 X11 init k0_t4_loop.trips (ix2 b col)
      = init (ix2 b col) + mulRow (arg7.view.read (Elt Ideal) X7) (arg9.view.read (Elt Ideal) X9) (arg11.view.read (Elt Ideal) X11)
          (![2, 3] ⟨col.val / 128, by omega⟩) b ⟨col.val % 128, Nat.mod_lt _ (by decide)⟩ :=
  loop_reads (by decide) arg7.view arg9.view arg11.view X7 X9 X11 ![2, 3] k0_off22 k0_off18 k0_off19 k0_off20 k0_off21
    (fun k => k0_off22_inb i k h) (fun k => k0_off18_inb i k h) (fun k => k0_off19_inb i k h) (fun k => k0_off20_inb i k h)
    (fun k => k0_off21_inb i k h) k0_off22_eq k0_off18_eq k0_off19_eq k0_off20_eq k0_off21_eq
    (st_k0_t4 (F := Ideal) 𝒱 c bd i arg1 harg1 arg2 harg2 arg3 harg3 arg4 harg4 arg5 harg5 arg6 harg6 arg7 harg7 arg8 harg8 arg9 harg9 arg10 harg10 arg11 harg11 arg12 harg12 h tabLo tabHi z z' X7 X9 X11 init)
    (fun k => (st_k0_t4_succ 𝒱 c bd i arg1 harg1 arg2 harg2 arg3 harg3 arg4 harg4 arg5 harg5 arg6 harg6 arg7 harg7 arg8 harg8 arg9 harg9 arg10 harg10 arg11 harg11 arg12 harg12 h tabLo tabHi z z' X7 X9 X11 init k).trans (by unfold tripR_k0_t4 trip_k0_t4; rfl)) b col

/-- The multiply loop of half 0 at a middle point, over the first two lane groups. -/
theorem t5_apply (h : k0_cond2 i = 1#1) (init : FVec Ideal S16x256 .f32) (b : Fin 16) (col : Fin 256) :
    st_k0_t5 (F := Ideal) 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init k0_t5_loop.trips (ix2 b col)
      = init (ix2 b col) + mulRow (arg7.view.read (Elt Ideal) X7) (arg8.view.read (Elt Ideal) X8) (arg10.view.read (Elt Ideal) X10)
          (![0, 1] ⟨col.val / 128, by omega⟩) b ⟨col.val % 128, Nat.mod_lt _ (by decide)⟩ :=
  loop_reads (by decide) arg7.view arg8.view arg10.view X7 X8 X10 ![0, 1] k0_off29 k0_off25 k0_off26 k0_off27 k0_off28
    (fun k => k0_off29_inb i k h) (fun k => k0_off25_inb i k h) (fun k => k0_off26_inb i k h) (fun k => k0_off27_inb i k h)
    (fun k => k0_off28_inb i k h) k0_off29_eq k0_off25_eq k0_off26_eq k0_off27_eq k0_off28_eq
    (st_k0_t5 (F := Ideal) 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init)
    (fun k => (st_k0_t5_succ 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init k).trans (by unfold tripR_k0_t5 trip_k0_t5; rfl)) b col

/-- The multiply loop of half 0 at a middle point, over the last two lane groups. -/
theorem t6_apply (h : k0_cond2 i = 1#1) (init : FVec Ideal S16x256 .f32) (b : Fin 16) (col : Fin 256) :
    st_k0_t6 (F := Ideal) 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init k0_t6_loop.trips (ix2 b col)
      = init (ix2 b col) + mulRow (arg7.view.read (Elt Ideal) X7) (arg8.view.read (Elt Ideal) X8) (arg10.view.read (Elt Ideal) X10)
          (![2, 3] ⟨col.val / 128, by omega⟩) b ⟨col.val % 128, Nat.mod_lt _ (by decide)⟩ :=
  loop_reads (by decide) arg7.view arg8.view arg10.view X7 X8 X10 ![2, 3] k0_off34 k0_off30 k0_off31 k0_off32 k0_off33
    (fun k => k0_off34_inb i k h) (fun k => k0_off30_inb i k h) (fun k => k0_off31_inb i k h) (fun k => k0_off32_inb i k h)
    (fun k => k0_off33_inb i k h) k0_off34_eq k0_off30_eq k0_off31_eq k0_off32_eq k0_off33_eq
    (st_k0_t6 (F := Ideal) 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init)
    (fun k => (st_k0_t6_succ 𝒱 c bd i arg1 harg1 arg2 harg2 arg3 harg3 arg4 harg4 arg5 harg5 arg6 harg6 arg7 harg7 arg8 harg8 arg9 harg9 arg10 harg10 arg11 harg11 arg12 harg12 h wordOf lowWord 2910594467#32 X7 X8 X10 init k).trans (by unfold tripR_k0_t6 trip_k0_t6; rfl)) b col

/-- The multiply loop of half 1 at a last point, over the first two lane groups. -/
theorem t7_apply (h : k0_cond3 i = 1#1) (init : FVec Ideal S16x256 .f32) (b : Fin 16) (col : Fin 256) :
    st_k0_t7 (F := Ideal) 𝒱 c bd i arg1 harg1 arg2 harg2 arg3 harg3 arg4 harg4 arg5 harg5 arg6 harg6 arg7 harg7 arg8 harg8 arg9 harg9 arg10 harg10 arg11 harg11 arg12 harg12 h X7 X9 X11 init k0_t7_loop.trips (ix2 b col)
      = init (ix2 b col) + mulRow (arg7.view.read (Elt Ideal) X7) (arg9.view.read (Elt Ideal) X9) (arg11.view.read (Elt Ideal) X11)
          (![0, 1] ⟨col.val / 128, by omega⟩) b ⟨col.val % 128, Nat.mod_lt _ (by decide)⟩ :=
  loop_reads (by decide) arg7.view arg9.view arg11.view X7 X9 X11 ![0, 1] k0_off39 k0_off35 k0_off36 k0_off37 k0_off38
    (fun k => k0_off39_inb i k h) (fun k => k0_off35_inb i k h) (fun k => k0_off36_inb i k h) (fun k => k0_off37_inb i k h)
    (fun k => k0_off38_inb i k h) k0_off39_eq k0_off35_eq k0_off36_eq k0_off37_eq k0_off38_eq
    (st_k0_t7 (F := Ideal) 𝒱 c bd i arg1 harg1 arg2 harg2 arg3 harg3 arg4 harg4 arg5 harg5 arg6 harg6 arg7 harg7 arg8 harg8 arg9 harg9 arg10 harg10 arg11 harg11 arg12 harg12 h X7 X9 X11 init)
    (fun k => (st_k0_t7_succ 𝒱 c bd i arg1 harg1 arg2 harg2 arg3 harg3 arg4 harg4 arg5 harg5 arg6 harg6 arg7 harg7 arg8 harg8 arg9 harg9 arg10 harg10 arg11 harg11 arg12 harg12 h X7 X9 X11 init k).trans (by unfold tripR_k0_t7 trip_k0_t7; rfl)) b col

/-- The multiply loop of half 1 at a last point, over the last two lane groups. -/
theorem t8_apply (h : k0_cond3 i = 1#1) (init : FVec Ideal S16x256 .f32) (b : Fin 16) (col : Fin 256) :
    st_k0_t8 (F := Ideal) 𝒱 c bd i arg1 harg1 arg2 harg2 arg3 harg3 arg4 harg4 arg5 harg5 arg6 harg6 arg7 harg7 arg8 harg8 arg9 harg9 arg10 harg10 arg11 harg11 arg12 harg12 h tabLo tabHi X7 X9 X11 init k0_t8_loop.trips (ix2 b col)
      = init (ix2 b col) + mulRow (arg7.view.read (Elt Ideal) X7) (arg9.view.read (Elt Ideal) X9) (arg11.view.read (Elt Ideal) X11)
          (![2, 3] ⟨col.val / 128, by omega⟩) b ⟨col.val % 128, Nat.mod_lt _ (by decide)⟩ :=
  loop_reads (by decide) arg7.view arg9.view arg11.view X7 X9 X11 ![2, 3] k0_off44 k0_off40 k0_off41 k0_off42 k0_off43
    (fun k => k0_off44_inb i k h) (fun k => k0_off40_inb i k h) (fun k => k0_off41_inb i k h) (fun k => k0_off42_inb i k h)
    (fun k => k0_off43_inb i k h) k0_off44_eq k0_off40_eq k0_off41_eq k0_off42_eq k0_off43_eq
    (st_k0_t8 (F := Ideal) 𝒱 c bd i arg1 harg1 arg2 harg2 arg3 harg3 arg4 harg4 arg5 harg5 arg6 harg6 arg7 harg7 arg8 harg8 arg9 harg9 arg10 harg10 arg11 harg11 arg12 harg12 h tabLo tabHi X7 X9 X11 init)
    (fun k => (st_k0_t8_succ 𝒱 c bd i arg1 harg1 arg2 harg2 arg3 harg3 arg4 harg4 arg5 harg5 arg6 harg6 arg7 harg7 arg8 harg8 arg9 harg9 arg10 harg10 arg11 harg11 arg12 harg12 h tabLo tabHi X7 X9 X11 init k).trans (by unfold tripR_k0_t8 trip_k0_t8; rfl)) b col

end

end Cert.KernelIdeal.Hand

end
-- ==== Proof.Case.lean ====
/- What each kind of grid point leaves in its output block and in the scratch buffers that the next point reads. -/
module

public import proofs.«01_k».proof.Proof.Scratch
public import proofs.«01_k».proof.Proof.MultLoops

@[expose] public section

set_option maxRecDepth 16384

noncomputable section

namespace Cert.KernelIdeal.Hand

open Idealize.ShloMosaic Cert.KernelIdeal.Gen Idealize.SL.Sem

/-- The product of the activations by half a tile of weights. -/
def halfMul (xp : S16x4608.Idx → EReal) (wt : S4x2304x128.Idx → BitVec 8) (sc : S4x72x128.Idx → EReal) : S16x512.Idx → EReal := fun y =>
  have h1 : (y 1).val < 512 := (y 1).isLt
  mulRow xp wt sc ⟨(y 1).val / 128, by omega⟩ (y 0) ⟨(y 1).val % 128, Nat.mod_lt _ (by decide)⟩

/-- A block of output: its left half and its right half. -/
def outBlock (lo hi : S16x512.Idx → EReal) : S16x1024.Idx → EReal := fun y =>
  have h1 : (y 1).val < 1024 := (y 1).isLt
  if h : (y 1).val < 512 then lo (ix2 (y 0) ⟨(y 1).val, h⟩) else hi (ix2 (y 0) ⟨(y 1).val - 512, by omega⟩)

/-- The first two lane groups. -/
theorem pair01 (k : Nat) (h : k < 2) : ((![0, 1] : Fin 2 → Fin 4) ⟨k, h⟩).val = k := by interval_cases k <;> rfl

/-- The last two lane groups. -/
theorem pair23 (k : Nat) (h : k < 2) : ((![2, 3] : Fin 2 → Fin 4) ⟨k, h⟩).val = k + 2 := by interval_cases k <;> rfl

/-- A product depends on its lane group and lane only through their values. -/
theorem mulRow_congr {xp : S16x4608.Idx → EReal} {wt : S4x2304x128.Idx → BitVec 8} {sc : S4x72x128.Idx → EReal} {q q' : Fin 4} {b : Fin 16}
    {l l' : Fin 128} (hq : q = q') (hl : l = l') : mulRow xp wt sc q b l = mulRow xp wt sc q' b l' := by rw [hq, hl]

/-- Two products of two lane groups each, side by side, are the product of the half tile. -/
theorem join_eq (a b : FVec Ideal S16x256 .f32) (xp : S16x4608.Idx → EReal) (wt : S4x2304x128.Idx → BitVec 8) (sc : S4x72x128.Idx → EReal)
    (ha : ∀ (r : Fin 16) (col : Fin 256), a (ix2 r col) = 0 + mulRow xp wt sc (![0, 1] ⟨col.val / 128, by omega⟩) r ⟨col.val % 128, Nat.mod_lt _ (by decide)⟩)
    (hb : ∀ (r : Fin 16) (col : Fin 256), b (ix2 r col) = 0 + mulRow xp wt sc (![2, 3] ⟨col.val / 128, by omega⟩) r ⟨col.val % 128, Nat.mod_lt _ (by decide)⟩) :
    k0_pay935 a b = halfMul xp wt sc := by
  funext y
  have h1 : (y 1).val < 512 := (y 1).isLt
  have hy : ix2 (n0 := 16) (n1 := 512) (y 0) (y 1) = y := by funext a; fin_cases a <;> rfl
  rw [← hy]
  have key : ∀ n : Fin 2, (y 1).val / 256 = n.val → k0_pay935 a b (ix2 (y 0) (y 1)) = (![a, b] : Fin 2 → S16x256.Idx → EReal) n (ix2 (y 0) ⟨(y 1).val % 256, Nat.mod_lt _ (by decide)⟩) :=
    fun n hn => concatenate_ofFn_apply (t := S16x512) (s₁ := S16x256) 1 (N := 2) ![a, b] concatenates_S16x256_S16x256_S16x512_d1 rfl 256 rfl (ix2 (y 0) (y 1))
      n hn (ix2 (y 0) ⟨(y 1).val % 256, Nat.mod_lt _ (by decide)⟩) rfl (by intro a ha; fin_cases a; exacts [rfl, absurd rfl ha])
  rcases (by omega : (y 1).val / 256 = 0 ∨ (y 1).val / 256 = 1) with h | h
  · refine (key 0 h).trans ((ha _ _).trans ((zero_add _).trans ?_))
    exact mulRow_congr (Fin.ext ((pair01 _ _).trans (by show (y 1).val % 256 / 128 = (y 1).val / 128; omega))) (Fin.ext (by show (y 1).val % 256 % 128 = (y 1).val % 128; omega))
  · refine (key 1 h).trans ((hb _ _).trans ((zero_add _).trans ?_))
    exact mulRow_congr (Fin.ext ((pair23 _ _).trans (by show (y 1).val % 256 / 128 + 2 = (y 1).val / 128; omega))) (Fin.ext (by show (y 1).val % 256 % 128 = (y 1).val % 128; omega))

/-- The constant the products start from. -/
theorem zero_apply (r : Fin 16) (col : Fin 256) : k0_pay382 (F := Ideal) (ix2 r col) = 0 := Idealize.ShloMosaic.Ideal.ofBits_zero_f32

/-- The two stores of an output block, read back. -/
theorem out_read {κ : Kind} {sp : Space} (v : View sig κ sp S16x1024 .bf16) (f : v.ty.Contents (Elt Ideal))
    (arg12 : Memref sig .tc .vmem S16x512 .bf16) (harg12 : arg12.IsWhole) (lo : Vec Ideal S16x512 .bf16) (hi : S16x512.Idx → EReal)
    (h₁) (h₂) (h₃) :
    v.read (Elt Ideal) (v.writes (Elt Ideal) f
      [(⟨Rect.unit (s := S16x1024) ![0, 0] S16x512.size h₁,
          View.readAt (Elt Ideal) arg12.view (Rect.unit (s := S16x512) ![0, 0] S16x512.size h₃).toLoadRect (harg12.unread lo)⟩ : View.Piece (Elt Ideal) S16x1024 .bf16),
       (⟨Rect.unit (s := S16x1024) ![0, 512] S16x512.size h₂, hi⟩ : View.Piece (Elt Ideal) S16x1024 .bf16)]) = outBlock lo hi := by
  have val : ∀ p ∈ [(⟨Rect.unit (s := S16x1024) ![0, 0] S16x512.size h₁,
          View.readAt (Elt Ideal) arg12.view (Rect.unit (s := S16x512) ![0, 0] S16x512.size h₃).toLoadRect (harg12.unread lo)⟩ : View.Piece (Elt Ideal) S16x1024 .bf16),
       (⟨Rect.unit (s := S16x1024) ![0, 512] S16x512.size h₂, hi⟩ : View.Piece (Elt Ideal) S16x1024 .bf16)],
      ∀ x : p.1.shape.Idx, p.2 x = outBlock lo hi (p.1.emb x) := by
    intro p hp
    rcases List.mem_cons.1 hp with rfl | hp
    · have val : ∀ z : S16x512.Idx, View.readAt (Elt Ideal) arg12.view (Rect.unit (s := S16x512) ![0, 0] S16x512.size h₃).toLoadRect (harg12.unread lo) z
          = outBlock lo hi ((Rect.unit (s := S16x1024) ![0, 0] S16x512.size h₁).emb z) := by
        intro z
        refine (readAt_unit arg12.view (harg12.unread lo) ![0, 0] S16x512.size h₃ z z (fun a => by fin_cases a <;> simp)).trans ?_
        rw [harg12.read_unread]
        have hz : (z 1).val < 512 := (z 1).isLt
        have e1 : (((Rect.unit (s := S16x1024) ![0, 0] S16x512.size h₁).emb z) 1).val = (z 1).val := by
          show 0 + 1 * (z 1).val = _; omega
        unfold outBlock
        rw [dif_pos (by omega)]
        refine congrArg lo (funext fun a => ?_)
        fin_cases a
        · exact Fin.ext (by show (z 0).val = 0 + 1 * (z 0).val; omega)
        · exact Fin.ext e1.symm
      exact val
    · obtain rfl := List.mem_singleton.1 hp
      have val : ∀ z : S16x512.Idx, hi z = outBlock lo hi ((Rect.unit (s := S16x1024) ![0, 512] S16x512.size h₂).emb z) := by
        intro z
        have hz : (z 1).val < 512 := (z 1).isLt
        have e1 : (((Rect.unit (s := S16x1024) ![0, 512] S16x512.size h₂).emb z) 1).val = 512 + (z 1).val := by
          show 512 + 1 * (z 1).val = _; omega
        unfold outBlock
        rw [dif_neg (by omega)]
        refine congrArg hi (funext fun a => ?_)
        fin_cases a
        · exact Fin.ext (by show (z 0).val = 0 + 1 * (z 0).val; omega)
        · exact Fin.ext (by show (z 1).val = (((Rect.unit (s := S16x1024) ![0, 512] S16x512.size h₂).emb z) 1).val - 512; omega)
      exact val
  have cover : ∀ y : S16x1024.Idx, ∃ p ∈ [(⟨Rect.unit (s := S16x1024) ![0, 0] S16x512.size h₁,
          View.readAt (Elt Ideal) arg12.view (Rect.unit (s := S16x512) ![0, 0] S16x512.size h₃).toLoadRect (harg12.unread lo)⟩ : View.Piece (Elt Ideal) S16x1024 .bf16),
       (⟨Rect.unit (s := S16x1024) ![0, 512] S16x512.size h₂, hi⟩ : View.Piece (Elt Ideal) S16x1024 .bf16)], y ∈ p.1.set := by
    intro y
    have h0 : (y 0).val < 16 := (y 0).isLt
    have h1 : (y 1).val < 1024 := (y 1).isLt
    by_cases h : (y 1).val < 512
    · refine ⟨_, List.mem_cons_self, ?_⟩
      rw [Rect.mem_set_unit]
      intro a
      fin_cases a
      · show 0 ≤ (y 0).val ∧ (y 0).val < 0 + 16; omega
      · show 0 ≤ (y 1).val ∧ (y 1).val < 0 + 512; omega
    · refine ⟨_, List.mem_cons_of_mem _ List.mem_cons_self, ?_⟩
      rw [Rect.mem_set_unit]
      intro a
      fin_cases a
      · show 0 ≤ (y 0).val ∧ (y 0).val < 0 + 16; omega
      · show 512 ≤ (y 1).val ∧ (y 1).val < 512 + 512; omega
  rw [View.read_writes_eq_canon _ _ _ cover]
  exact funext fun y => View.canon_apply_of_pieces (outBlock lo hi) _ val y (cover y)

/-- The one store of the half product kept for the next point, read back. -/
theorem keep_read {κ : Kind} {sp : Space} (v : View sig κ sp S16x512 .bf16) (f : v.ty.Contents (Elt Ideal)) (w : S16x512.Idx → EReal) (h₁) :
    v.read (Elt Ideal) (v.writes (Elt Ideal) f [(⟨Rect.unit (s := S16x512) ![0, 0] S16x512.size h₁, w⟩ : View.Piece (Elt Ideal) S16x512 .bf16)]) = w := by
  have e : (![0, 0] : Fin 2 → Nat) = fun _ => 0 := by funext a; fin_cases a <;> rfl
  rw [View.read_writes_eq_canon _ _ _ (fun y => ⟨_, List.mem_cons_self, by
    rw [Rect.mem_set_unit]
    intro a
    have := (y a).isLt
    fin_cases a
    · exact ⟨Nat.zero_le _, by show (y 0).val < 0 + 16; have : (y 0).val < 16 := (y 0).isLt; omega⟩
    · exact ⟨Nat.zero_le _, by show (y 1).val < 0 + 512; have : (y 1).val < 512 := (y 1).isLt; omega⟩⟩)]
  exact View.canon_cons_unit_zero (Val := Elt Ideal) (e := .bf16) (S := S16x512) e h₁ w []

/-- The scales of half a tile, read back, at a point given by its number. -/
theorem sc_read_at {κ : Kind} {sp : Space} (v : View sig κ sp S4x72x128 .f32) (f : v.ty.Contents (Elt Ideal)) (k : Fin 36) (half : Fin 2)
    {I : Nat} (hI : I = k.val) (arg1 : Memref sig .tc .smem S1 .f32) (harg1 : arg1.IsWhole) (arg4 : Memref sig .tc .vmem S72x1024 .i8)
    (harg4 : arg4.IsWhole) (arg5 : Memref sig .tc .vmem S81x128 .f32) (harg5 : arg5.IsWhole) (hr) (hn)
    (x0 : Vec Ideal S1 .f32) (x3 : Vec Ideal S72x1024 .i8) (x4 : Vec Ideal S81x128 .f32) :
    v.read (Elt Ideal) (v.writes (Elt Ideal) f (downFrom (scPiece (BitVec.ofNat 32 I) half arg1 harg1 arg4 harg4 arg5 harg5 hr hn x0 x3 x4) 4 le_rfl))
      = scArr k half x0 x3 x4 := by
  subst hI
  exact sc_read v f k half arg1 harg1 arg4 harg4 arg5 harg5 hr hn x0 x3 x4

section Cases
variable (c : Dev nD) (i : grid0.Coords)
variable
  (arg1 : Memref sig .tc .smem S1 .f32) (harg1 : arg1.IsWhole) (arg2 : Memref sig .tc .vmem S16x4608 .bf16)
  (harg2 : arg2.IsWhole) (arg3 : Memref sig .tc .vmem S1024x2304 .i8) (harg3 : arg3.IsWhole)
  (arg4 : Memref sig .tc .vmem S72x1024 .i8) (harg4 : arg4.IsWhole) (arg5 : Memref sig .tc .vmem S81x128 .f32)
  (harg5 : arg5.IsWhole) (arg6 : Memref sig .tc .vmem S16x1024 .bf16) (harg6 : arg6.IsWhole)
  (arg7 : Memref sig .tc .vmem S16x4608 .bf16) (harg7 : arg7.IsWhole) (arg8 : Memref sig .tc .vmem S4x2304x128 .i8)
  (harg8 : arg8.IsWhole) (arg9 : Memref sig .tc .vmem S4x2304x128 .i8) (harg9 : arg9.IsWhole)
  (arg10 : Memref sig .tc .vmem S4x72x128 .f32) (harg10 : arg10.IsWhole) (arg11 : Memref sig .tc .vmem S4x72x128 .f32)
  (harg11 : arg11.IsWhole) (arg12 : Memref sig .tc .vmem S16x512 .bf16) (harg12 : arg12.IsWhole)
variable (x0 : Vec Ideal S1 .f32) (x1 : Vec Ideal S16x4608 .bf16) (x2 : Vec Ideal S1024x2304 .i8) (x3 : Vec Ideal S72x1024 .i8)
  (x4 : Vec Ideal S81x128 .f32) (xs0 : Vec Ideal S16x4608 .bf16) (xs2 : Vec Ideal S4x2304x128 .i8) (xs4 : Vec Ideal S4x72x128 .f32)
  (xs5 : Vec Ideal S16x512 .bf16)

/-- A first point leaves the permuted activations. -/
theorem sout_A_0 (k : Fin 36) (hk : (i 0).val = k.val) (hc0 : cond0_0 i) (hc1 : ¬cond0_1 i) (hc2 : ¬cond0_2 i) : sout0_A_0 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = xpArr x1 := by
  unfold sout0_A_0
  rw [(lists_A c i arg1 harg1 arg2 harg2 arg3 harg3 arg4 harg4 arg5 harg5 arg6 harg6 arg7 harg7 arg8 harg8 arg9 harg9 arg10 harg10 arg11 harg11 arg12 harg12 x0 x1 x2 x3 x4 hc0 hc1 hc2 (hk ▸ rowOff_inb k 1) (hk ▸ nextOff_inb k 1)).1]
  exact xp_read _ _ arg2 harg2 x1

/-- A first point leaves half 1 of its tile's weights. -/
theorem sout_A_2 (k : Fin 36) (hk : (i 0).val = k.val) (hc0 : cond0_0 i) (hc1 : ¬cond0_1 i) (hc2 : ¬cond0_2 i) : sout0_A_2 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = wtArr 1 x2 := by
  unfold sout0_A_2
  rw [(lists_A c i arg1 harg1 arg2 harg2 arg3 harg3 arg4 harg4 arg5 harg5 arg6 harg6 arg7 harg7 arg8 harg8 arg9 harg9 arg10 harg10 arg11 harg11 arg12 harg12 x0 x1 x2 x3 x4 hc0 hc1 hc2 (hk ▸ rowOff_inb k 1) (hk ▸ nextOff_inb k 1)).2.1]
  exact wt_read _ _ 1 arg3 harg3 x2

/-- A first point leaves half 1 of its tile's scales. -/
theorem sout_A_4 (k : Fin 36) (hk : (i 0).val = k.val) (hc0 : cond0_0 i) (hc1 : ¬cond0_1 i) (hc2 : ¬cond0_2 i) : sout0_A_4 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = scArr k 1 x0 x3 x4 := by
  unfold sout0_A_4
  rw [(lists_A c i arg1 harg1 arg2 harg2 arg3 harg3 arg4 harg4 arg5 harg5 arg6 harg6 arg7 harg7 arg8 harg8 arg9 harg9 arg10 harg10 arg11 harg11 arg12 harg12 x0 x1 x2 x3 x4 hc0 hc1 hc2 (hk ▸ rowOff_inb k 1) (hk ▸ nextOff_inb k 1)).2.2]
  exact sc_read_at _ _ k 1 hk arg1 harg1 arg4 harg4 arg5 harg5 _ _ x0 x3 x4

/-- A first point keeps the product of half 0 of its tile. -/
theorem sout_A_5 (k : Fin 36) (hk : (i 0).val = k.val) (hc0 : cond0_0 i) (hc1 : ¬cond0_1 i) (hc2 : ¬cond0_2 i) :
    sout0_A_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = halfMul (xpArr x1) (wtArr 0 x2) (scArr k 0 x0 x3 x4) := by
  unfold sout0_A_5 kernelRun0_A
  dsimp only
  rw [HS0_A, HS1_A, HS3_A c i arg1 harg1 arg4 harg4 arg5 harg5 x0 x3 x4 hc0 (hk ▸ rowOff_inb k 0) (hk ▸ nextOff_inb k 0)]
  refine (keep_read _ _ _ _).trans ?_
  have e7 := xp_read arg7.view arg7.view.junk arg2 harg2 x1
  have e8 := wt_read arg8.view arg8.view.junk 0 arg3 harg3 x2
  have e10 : arg10.view.read (Elt Ideal) (arg10.view.writes (Elt Ideal) arg10.view.junk
      (downFrom (scPiece (BitVec.ofNat 32 (i 0).val) 0 arg1 harg1 arg4 harg4 arg5 harg5 (hk ▸ rowOff_inb k 0) (hk ▸ nextOff_inb k 0) x0 x3 x4) 4 le_rfl))
      = scArr k 0 x0 x3 x4 := by
    exact sc_read_at _ _ k 0 hk arg1 harg1 arg4 harg4 arg5 harg5 _ _ x0 x3 x4
  refine (shapeCast_self _ _).trans (join_eq _ _ _ _ _ (fun r col => ?_) (fun r col => ?_))
  · refine (t1_apply Variants.none c none i arg1 harg1 arg2 harg2 arg3 harg3 arg4 harg4 arg5 harg5 arg6 harg6 arg7 harg7 arg8 harg8 arg9 harg9 arg10 harg10 arg11 harg11 arg12 harg12 _ _ _ hc0 _ r col).trans ?_
    rw [e7, e8, e10, zero_apply]
  · refine (t2_apply Variants.none c none i arg1 harg1 arg2 harg2 arg3 harg3 arg4 harg4 arg5 harg5 arg6 harg6 arg7 harg7 arg8 harg8 arg9 harg9 arg10 harg10 arg11 harg11 arg12 harg12 _ _ _ hc0 _ r col).trans ?_
    rw [e7, e8, e10]
    exact congrArg (· + _) (zero_apply r col)

/-- A middle point leaves half 1 of its tile's weights. -/
theorem sout_B_2 (k : Fin 36) (hk : (i 0).val = k.val) (hc0 : ¬cond0_0 i) (hc1 : cond0_1 i) (hc2 : ¬cond0_2 i) : sout0_B_2 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5 = wtArr 1 x2 := by
  unfold sout0_B_2
  rw [(lists_B c i arg1 harg1 arg2 harg2 arg3 harg3 arg4 harg4 arg5 harg5 arg6 harg6 arg7 harg7 arg8 harg8 arg9 harg9 arg10 harg10 arg11 harg11 arg12 harg12 x0 x1 x2 x3 x4 xs0 xs2 xs4 xs5 hc0 hc1 hc2 (hk ▸ rowOff_inb k 1) (hk ▸ nextOff_inb k 1)).1]
  exact wt_read _ _ 1 arg3 harg3 x2

/-- A middle point leaves half 1 of its tile's scales. -/
theorem sout_B_4 (k : Fin 36) (hk : (i 0).val = k.val) (hc0 : ¬cond0_0 i) (hc1 : cond0_1 i) (hc2 : ¬cond0_2 i) : sout0_B_4 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5 = scArr k 1 x0 x3 x4 := by
  unfold sout0_B_4
  rw [(lists_B c i arg1 harg1 arg2 harg2 arg3 harg3 arg4 harg4 arg5 harg5 arg6 harg6 arg7 harg7 arg8 harg8 arg9 harg9 arg10 harg10 arg11 harg11 arg12 harg12 x0 x1 x2 x3 x4 xs0 xs2 xs4 xs5 hc0 hc1 hc2 (hk ▸ rowOff_inb k 1) (hk ▸ nextOff_inb k 1)).2]
  exact sc_read_at _ _ k 1 hk arg1 harg1 arg4 harg4 arg5 harg5 _ _ x0 x3 x4

/-- A middle point keeps the product of half 0 of its tile. -/
theorem sout_B_5 (k : Fin 36) (hk : (i 0).val = k.val) (hc0 : ¬cond0_0 i) (hc1 : cond0_1 i) (hc2 : ¬cond0_2 i) :
    sout0_B_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5 = halfMul xs0 (wtArr 0 x2) (scArr k 0 x0 x3 x4) := by
  unfold sout0_B_5 kernelRun0_B
  dsimp only
  refine (keep_read _ _ _ _).trans ?_
  unfold kernelRun0_B.sl.r_18
  rw [HS1_B, HS3_B c i arg1 harg1 arg4 harg4 arg5 harg5 x0 x3 x4 hc1 (hk ▸ rowOff_inb k 0) (hk ▸ nextOff_inb k 0)]
  have e7 := harg7.read_unread xs0
  have e8 := wt_read arg8.view arg8.view.junk 0 arg3 harg3 x2
  have e10 : arg10.view.read (Elt Ideal) (arg10.view.writes (Elt Ideal) arg10.view.junk
      (downFrom (scPiece (BitVec.ofNat 32 (i 0).val) 0 arg1 harg1 arg4 harg4 arg5 harg5 (hk ▸ rowOff_inb k 0) (hk ▸ nextOff_inb k 0) x0 x3 x4) 4 le_rfl))
      = scArr k 0 x0 x3 x4 := by
    exact sc_read_at _ _ k 0 hk arg1 harg1 arg4 harg4 arg5 harg5 _ _ x0 x3 x4
  refine (shapeCast_self _ _).trans (join_eq _ _ _ _ _ (fun r col => ?_) (fun r col => ?_))
  · refine (t5_apply Variants.none c none i arg1 harg1 arg2 harg2 arg3 harg3 arg4 harg4 arg5 harg5 arg6 harg6 arg7 harg7 arg8 harg8 arg9 harg9 arg10 harg10 arg11 harg11 arg12 harg12 _ _ _ hc1 _ r col).trans ?_
    rw [e7, e8, e10]
    exact congrArg (· + _) (zero_apply r col)
  · refine (t6_apply Variants.none c none i arg1 harg1 arg2 harg2 arg3 harg3 arg4 harg4 arg5 harg5 arg6 harg6 arg7 harg7 arg8 harg8 arg9 harg9 arg10 harg10 arg11 harg11 arg12 harg12 _ _ _ hc1 _ r col).trans ?_
    rw [e7, e8, e10]
    exact congrArg (· + _) (zero_apply r col)

/-- A middle point's block of output: the half kept by the point before, and the product of the half tile that it left. -/
theorem out_B (hc0 : ¬cond0_0 i) (hc1 : cond0_1 i) (hc2 : ¬cond0_2 i) : out0_B_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5 = outBlock xs5 (halfMul xs0 xs2 xs4) := by
  unfold out0_B_5 kernelRun0_B
  dsimp only
  refine (out_read _ _ arg12 harg12 xs5 _ _ _ _).trans (congrArg (outBlock xs5) ?_)
  refine join_eq _ _ _ _ _ (fun r col => ?_) (fun r col => ?_)
  · refine (t3_apply Variants.none c none i arg1 harg1 arg2 harg2 arg3 harg3 arg4 harg4 arg5 harg5 arg6 harg6 arg7 harg7 arg8 harg8 arg9 harg9 arg10 harg10 arg11 harg11 arg12 harg12 _ _ _ hc1 _ r col).trans ?_
    rw [harg7.read_unread, harg9.read_unread, harg11.read_unread]
    exact congrArg (· + _) (zero_apply r col)
  · refine (t4_apply Variants.none c none i arg1 harg1 arg2 harg2 arg3 harg3 arg4 harg4 arg5 harg5 arg6 harg6 arg7 harg7 arg8 harg8 arg9 harg9 arg10 harg10 arg11 harg11 arg12 harg12 _ _ _ hc1 _ _ _ r col).trans ?_
    rw [harg7.read_unread, harg9.read_unread, harg11.read_unread]
    exact congrArg (· + _) (zero_apply r col)

/-- The last point's block of output, likewise. -/
theorem out_C (hc0 : ¬cond0_0 i) (hc1 : ¬cond0_1 i) (hc2 : cond0_2 i) : out0_C_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs2 xs4 xs5 = outBlock xs5 (halfMul xs0 xs2 xs4) := by
  unfold out0_C_5 kernelRun0_C
  dsimp only
  refine (out_read _ _ arg12 harg12 xs5 _ _ _ _).trans (congrArg (outBlock xs5) ?_)
  refine join_eq _ _ _ _ _ (fun r col => ?_) (fun r col => ?_)
  · refine (t7_apply Variants.none c none i arg1 harg1 arg2 harg2 arg3 harg3 arg4 harg4 arg5 harg5 arg6 harg6 arg7 harg7 arg8 harg8 arg9 harg9 arg10 harg10 arg11 harg11 arg12 harg12 _ _ _ hc2 _ r col).trans ?_
    rw [harg7.read_unread, harg9.read_unread, harg11.read_unread]
    exact congrArg (· + _) (zero_apply r col)
  · refine (t8_apply Variants.none c none i arg1 harg1 arg2 harg2 arg3 harg3 arg4 harg4 arg5 harg5 arg6 harg6 arg7 harg7 arg8 harg8 arg9 harg9 arg10 harg10 arg11 harg11 arg12 harg12 _ _ _ hc2 _ r col).trans ?_
    rw [harg7.read_unread, harg9.read_unread, harg11.read_unread]
    exact congrArg (· + _) (zero_apply r col)
end Cases

end Cert.KernelIdeal.Hand

end
-- ==== Proof.Grid.lean ====
/- The whole result of the kernel: what the points leave, one after the other, and the blocks that they write back. -/
module

public import proofs.«01_k».proof.Proof.Case
public import proofs.«01_k».proof.Proof.Gen.KernelIdeal.Value

@[expose] public section

set_option maxRecDepth 16384

noncomputable section

namespace Cert.KernelIdeal.Hand

open Idealize.ShloMosaic Cert.KernelIdeal.Gen Idealize.SL.Sem
open Idealize.ShloMosaic.Pipeline (Dat)

variable (m : (ℓ : Loc nD τ sig) → Buf (Elt Ideal) ℓ)

/-- The grid has one axis, so a point's coordinate is its number. -/
theorem coord_val : ∀ t : Fin cfg0.N, ((grid0.coords t) 0).val = t.val := by decide +kernel

/-- What a point that loads a tile leaves: the permuted activations, half 1 of the tile's weights and scales, and the product of
    half 0 of the tile. -/
def Left (c : Dev nD) (n : Nat) (h : n < cfg0.N) (k : Fin 36) : Prop :=
  (outsAt0 m c n h).2.1 = xpArr (iblk m c 1 ⟨0, by decide⟩)
  ∧ (outsAt0 m c n h).2.2.1 = wtArr 1 (iblk m c 2 ⟨n, h⟩)
  ∧ (outsAt0 m c n h).2.2.2.1 = scArr k 1 (iblk m c 0 ⟨n, h⟩) (iblk m c 3 ⟨n, h⟩) (iblk m c 4 ⟨n, h⟩)
  ∧ (outsAt0 m c n h).2.2.2.2 = halfMul (xpArr (iblk m c 1 ⟨0, by decide⟩)) (wtArr 0 (iblk m c 2 ⟨n, h⟩))
      (scArr k 0 (iblk m c 0 ⟨n, h⟩) (iblk m c 3 ⟨n, h⟩) (iblk m c 4 ⟨n, h⟩))

/-- Every point but the last leaves that. -/
theorem left_all (c : Dev nD) : ∀ (n : Nat) (hn : n < 36) (h : n < cfg0.N), Left m c n h ⟨n, hn⟩
  | 0, hn, h => by
    have hk := coord_val ⟨0, h⟩
    unfold Left
    rw [outsAt0_A m c ⟨0, h⟩ (by show 0 % 37 = 0; decide) (by show ¬(1 ≤ 0 % 37 ∧ 0 % 37 ≤ 35); decide) (by show ¬0 % 37 = 36; decide)]
    dsimp only
    exact ⟨sout_A_0 _ _ _ _ _ _ _ _ _ _ _ _ _ _ _ _ _ _ _ _ _ _ _ _ _ _ _ _ _ _ _ ⟨0, hn⟩ hk _ _ _,
      sout_A_2 _ _ _ _ _ _ _ _ _ _ _ _ _ _ _ _ _ _ _ _ _ _ _ _ _ _ _ _ _ _ _ ⟨0, hn⟩ hk _ _ _,
      sout_A_4 _ _ _ _ _ _ _ _ _ _ _ _ _ _ _ _ _ _ _ _ _ _ _ _ _ _ _ _ _ _ _ ⟨0, hn⟩ hk _ _ _,
      sout_A_5 _ _ _ _ _ _ _ _ _ _ _ _ _ _ _ _ _ _ _ _ _ _ _ _ _ _ _ _ _ _ _ ⟨0, hn⟩ hk _ _ _⟩
  | n + 1, hn, h => by
    have hk := coord_val ⟨n + 1, h⟩
    obtain ⟨e0, -, -, -⟩ := left_all c n (by omega) (by omega)
    have e0' : (outsAt0 m c ((⟨n + 1, h⟩ : Fin cfg0.N).val - 1) (Nat.lt_of_le_of_lt (Nat.sub_le _ _) h)).2.1 = xpArr (iblk m c 1 ⟨0, by decide⟩) := e0
    unfold Left
    rw [outsAt0_B m c ⟨n + 1, h⟩ (by show ¬(n + 1) % 37 = 0; omega) (by show 1 ≤ (n + 1) % 37 ∧ (n + 1) % 37 ≤ 35; omega) (by show ¬(n + 1) % 37 = 36; omega)]
    dsimp only
    refine ⟨?_, ?_, ?_, ?_⟩
    · exact e0'
    · exact sout_B_2 _ _ _ _ _ _ _ _ _ _ _ _ _ _ _ _ _ _ _ _ _ _ _ _ _ _ _ _ _ _ _ _ _ _ _ ⟨n + 1, hn⟩ hk _ _ _
    · exact sout_B_4 _ _ _ _ _ _ _ _ _ _ _ _ _ _ _ _ _ _ _ _ _ _ _ _ _ _ _ _ _ _ _ _ _ _ _ ⟨n + 1, hn⟩ hk _ _ _
    · refine (sout_B_5 _ _ _ _ _ _ _ _ _ _ _ _ _ _ _ _ _ _ _ _ _ _ _ _ _ _ _ _ _ _ _ _ _ _ _ ⟨n + 1, hn⟩ hk _ _ _).trans ?_
      rw [e0']

/-- The product of the activations by a whole tile of weights. -/
def tileMul (c : Dev nD) (n : Nat) (h : n < cfg0.N) (k : Fin 36) : S16x1024.Idx → EReal :=
  outBlock
    (halfMul (xpArr (iblk m c 1 ⟨0, by decide⟩)) (wtArr 0 (iblk m c 2 ⟨n, h⟩)) (scArr k 0 (iblk m c 0 ⟨n, h⟩) (iblk m c 3 ⟨n, h⟩) (iblk m c 4 ⟨n, h⟩)))
    (halfMul (xpArr (iblk m c 1 ⟨0, by decide⟩)) (wtArr 1 (iblk m c 2 ⟨n, h⟩)) (scArr k 1 (iblk m c 0 ⟨n, h⟩) (iblk m c 3 ⟨n, h⟩) (iblk m c 4 ⟨n, h⟩)))

/-- A point after the first holds, in its output block, the product by the tile of the point before. -/
theorem out_tile (c : Dev nD) (n : Nat) (hn : n < 36) (h : n + 1 < cfg0.N) :
    (outsAt0 m c (n + 1) h).1 = tileMul m c n (by omega) ⟨n, hn⟩ := by
  obtain ⟨e0, e2, e4, e5⟩ := left_all m c n hn (by omega)
  by_cases hl : n = 35
  · subst hl
    rw [outsAt0_C m c ⟨35 + 1, h⟩ (by show ¬36 % 37 = 0; decide) (by show ¬(1 ≤ 36 % 37 ∧ 36 % 37 ≤ 35); decide) (by show 36 % 37 = 36; decide)]
    dsimp only
    refine (out_C _ _ _ _ _ _ _ _ _ _ _ _ _ _ _ _ _ _ _ _ _ _ _ _ _ _ _ _ _ _ _ _ _ _ _ _ _ _).trans ?_
    show outBlock (outsAt0 m c 35 _).2.2.2.2 (halfMul (outsAt0 m c 35 _).2.1 (outsAt0 m c 35 _).2.2.1 (outsAt0 m c 35 _).2.2.2.1) = _
    rw [e0, e2, e4, e5]
    rfl
  · rw [outsAt0_B m c ⟨n + 1, h⟩ (by show ¬(n + 1) % 37 = 0; omega) (by show 1 ≤ (n + 1) % 37 ∧ (n + 1) % 37 ≤ 35; omega) (by show ¬(n + 1) % 37 = 36; omega)]
    dsimp only
    refine (out_B _ _ _ _ _ _ _ _ _ _ _ _ _ _ _ _ _ _ _ _ _ _ _ _ _ _ _ _ _ _ _ _ _ _ _ _ _ _).trans ?_
    show outBlock (outsAt0 m c n _).2.2.2.2 (halfMul (outsAt0 m c n _).2.1 (outsAt0 m c n _).2.2.1 (outsAt0 m c n _).2.2.2.1) = _
    rw [e0, e2, e4, e5]
    rfl

end Cert.KernelIdeal.Hand

end
-- ==== Proof.Blk.lean ====
/- The blocks that the points stage, read off the arguments. -/
module

public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Hand

open Idealize.ShloMosaic Cert.KernelIdeal Cert.KernelIdeal.Gen Idealize.SL.Sem Idealize.ShloMosaic.TcCoe
open Idealize.ShloMosaic.Pipeline (Dat)

variable (m : (ℓ : Loc nD τ sig) → Buf (Elt Ideal) ℓ)

/-- The offset is one block. -/
theorem index0 : ∀ t : Fin cfg0.N, win0_0.index t 0 = 0 := by decide +kernel
/-- The activations are one block. -/
theorem index1 : ∀ t : Fin cfg0.N, win0_1.index t 0 = 0 ∧ win0_1.index t 1 = 0 := by decide +kernel
/-- A tile of weights per point; the last point stays at the last tile. -/
theorem index2 : ∀ t : Fin cfg0.N, win0_2.index t 0 = min t.val 35 ∧ win0_2.index t 1 = 0 := by decide +kernel
/-- A tile of codes per point, likewise. -/
theorem index3 : ∀ t : Fin cfg0.N, win0_3.index t 0 = 0 ∧ win0_3.index t 1 = min t.val 35 := by decide +kernel
/-- The scales are one block. -/
theorem index4 : ∀ t : Fin cfg0.N, win0_4.index t 0 = 0 ∧ win0_4.index t 1 = 0 := by decide +kernel
/-- A point's output block is the one of the tile before. -/
theorem index5 : ∀ t : Fin cfg0.N, win0_5.index t 0 = 0 ∧ win0_5.index t 1 = t.val - 1 := by decide +kernel

/-- The activations as the points stage them. -/
def argX (c : Dev nD) : S16x4608.Idx → EReal := fun y => m ((c : Thread nD τ).loc main_arg0) (ix3 (y 0) 0 (y 1))
/-- The packed weights. -/
def argW (c : Dev nD) : S36864x2304.Idx → BitVec 8 := m ((c : Thread nD τ).loc main_arg1)
/-- The codes. -/
def argC (c : Dev nD) : S36864x72.Idx → BitVec 8 := m ((c : Thread nD τ).loc main_arg2)
/-- The scales. -/
def argS (c : Dev nD) : S10368.Idx → EReal := m ((c : Thread nD τ).loc main_arg3)
/-- The offset. -/
def argO (c : Dev nD) : S_.Idx → EReal := m ((c : Thread nD τ).loc main_arg4)

/-- The block of offsets is the offset. -/
theorem blk0 (c : Dev nD) (t : Fin cfg0.N) : (iblk m c 0 t : S1.Idx → EReal) (ix1 0) = argO m c ix0 := by
  have e : (iblk m c 0 t : S1.Idx → EReal) (ix1 0) = V m c main_v0 (ix1 0) := by
    blk_simp [iblk]
    refine congrArg (V m c main_v0) (funext fun a => Fin.ext ?_)
    fin_cases a
    blk_simp
    exact index0 t
  rw [e]
  unfold V
  after_reads_at
  rfl

/-- The block of activations is all of them. -/
theorem blk1 (c : Dev nD) (t : Fin cfg0.N) : (iblk m c 1 t : S16x4608.Idx → EReal) = argX m c := by
  funext y
  have e : (iblk m c 1 t : S16x4608.Idx → EReal) y = V m c main_v1 y := by
    blk_simp [iblk]
    refine congrArg (V m c main_v1) (funext fun a => Fin.ext ?_)
    obtain ⟨h0, h1⟩ := index1 t
    fin_cases a
    · blk_simp
      show win0_1.index t 0 * 16 + (y 0).val = (y 0).val
      omega
    · blk_simp
      show win0_1.index t 1 * 4608 + (y 1).val = (y 1).val
      omega
  rw [e]
  unfold V
  after_reads_at
  rfl

/-- The block of weights of a point is its tile. -/
theorem blk2 (c : Dev nD) (t : Fin cfg0.N) (ht : t.val < 36) (r : Fin 1024) (k : Fin 2304) :
    (iblk m c 2 t : S1024x2304.Idx → BitVec 8) (ix2 r k) = argW m c (ix2 ⟨t.val * 1024 + r.val, by omega⟩ k) := by
  have hm : min t.val 35 = t.val := by omega
  have e : (iblk m c 2 t : S1024x2304.Idx → BitVec 8) (ix2 r k) = V m c main_arg1 (ix2 ⟨t.val * 1024 + r.val, by omega⟩ k) := by
    blk_simp [iblk]
    refine congrArg (V m c main_arg1) (funext fun a => Fin.ext ?_)
    obtain ⟨h0, h1⟩ := index2 t
    fin_cases a
    · blk_simp
      show win0_2.index t 0 * 1024 + r.val = t.val * 1024 + r.val
      omega
    · blk_simp
      show win0_2.index t 1 * 2304 + k.val = k.val
      omega
  rw [e, V_main_arg1]
  rfl

/-- The block of codes of a point is its tile, a column per row of weights. -/
theorem blk3 (c : Dev nD) (t : Fin cfg0.N) (ht : t.val < 36) (b : Fin 72) (r : Fin 1024) :
    (iblk m c 3 t : S72x1024.Idx → BitVec 8) (ix2 b r) = argC m c (ix2 ⟨t.val * 1024 + r.val, by omega⟩ b) := by
  have hm : min t.val 35 = t.val := by omega
  have e : (iblk m c 3 t : S72x1024.Idx → BitVec 8) (ix2 b r) = V m c main_v2 (ix2 b ⟨t.val * 1024 + r.val, by omega⟩) := by
    blk_simp [iblk]
    refine congrArg (V m c main_v2) (funext fun a => Fin.ext ?_)
    obtain ⟨h0, h1⟩ := index3 t
    fin_cases a
    · blk_simp
      show win0_3.index t 0 * 72 + b.val = b.val
      omega
    · blk_simp
      show win0_3.index t 1 * 1024 + r.val = t.val * 1024 + r.val
      omega
  rw [e]
  unfold V
  after_reads_at
  rfl

/-- The block of scales is all of them, 128 to a row. -/
theorem blk4 (c : Dev nD) (t : Fin cfg0.N) (a' : Fin 81) (b : Fin 128) :
    (iblk m c 4 t : S81x128.Idx → EReal) (ix2 a' b) = argS m c (ix1 ⟨a'.val * 128 + b.val, by omega⟩) := by
  have e : (iblk m c 4 t : S81x128.Idx → EReal) (ix2 a' b) = V m c main_v3 (ix2 a' b) := by
    blk_simp [iblk]
    refine congrArg (V m c main_v3) (funext fun a => Fin.ext ?_)
    obtain ⟨h0, h1⟩ := index4 t
    fin_cases a
    · blk_simp
      show win0_4.index t 0 * 81 + a'.val = a'.val
      omega
    · blk_simp
      show win0_4.index t 1 * 128 + b.val = b.val
      omega
  rw [e]
  unfold V
  after_reads_at
  rfl

end Cert.KernelIdeal.Hand

end
-- ==== Proof.Final.lean ====
/- The kernel's whole result as a sum over the rows of weights, in the order in which the kernel lays them out. -/
module

public import proofs.«01_k».proof.Proof.Grid
public import proofs.«01_k».proof.Proof.Blk

@[expose] public section

set_option maxRecDepth 16384

noncomputable section

namespace Cert.KernelIdeal.Hand

open Idealize.ShloMosaic Cert.KernelIdeal Cert.KernelIdeal.Gen Idealize.SL.Sem Idealize.ShloMosaic.TcCoe
open Idealize.ShloMosaic.Pipeline (Dat)

/-- The weight of output `o` that row `n` of the kernel's order holds. -/
def kerWeight (w : S36864x2304.Idx → BitVec 8) (codes : S36864x72.Idx → BitVec 8) (s : S10368.Idx → EReal) (off : S_.Idx → EReal)
    (o : Fin 36864) (n : Fin 4608) : EReal :=
  FloatOps.ofBits (F := Ideal) .bf16 (levelBits (nib (w (ix2 o ⟨n.val / 64 * 32 + (2 * (n.val % 16) + n.val / 16 % 4 / 2), by omega⟩))
      (n.val / 16 % 4)))
    * (FloatOps.sitofp (F := Ideal) .f32 ((codes (ix2 o ⟨n.val / 64, by omega⟩)).signExtend 32)
        * s (ix1 ⟨(o.val * 72 + n.val / 64) / 256, by omega⟩) + off ix0)

/-- The kernel's result: the permuted activations times the weights. -/
def kerOut (x : S16x4608.Idx → EReal) (w : S36864x2304.Idx → BitVec 8) (codes : S36864x72.Idx → BitVec 8) (s : S10368.Idx → EReal)
    (off : S_.Idx → EReal) : S16x36864.Idx → EReal := fun y =>
  ∑ n : Fin 4608, x (ix2 (y 0) (permCol n)) * kerWeight w codes s off (y 1) n

variable (m : (ℓ : Loc nD τ sig) → Buf (Elt Ideal) ℓ)

/-- The weights of half a tile, off the argument. -/
theorem wtArr_blk (c : Dev nD) (t : Fin cfg0.N) (ht : t.val < 36) (half : Fin 2) (q : Fin 4) (r : Fin 2304) (l : Fin 128) :
    wtArr half (iblk m c 2 t) (ix3 q r l) = argW m c (ix2 ⟨t.val * 1024 + (512 * half.val + 128 * q.val + l.val), by omega⟩ r) :=
  blk2 m c t ht ⟨512 * half.val + 128 * q.val + l.val, by omega⟩ r

/-- The scales of half a tile, off the arguments. -/
theorem scArr_blk (c : Dev nD) (t : Fin cfg0.N) (ht : t.val < 36) (half : Fin 2) (q : Fin 4) (b : Fin 72) (l : Fin 128) :
    scArr ⟨t.val, ht⟩ half (iblk m c 0 t) (iblk m c 3 t) (iblk m c 4 t) (ix3 q b l)
      = FloatOps.sitofp (F := Ideal) .f32
          ((argC m c (ix2 ⟨t.val * 1024 + (512 * half.val + 128 * q.val + l.val), by omega⟩ b)).signExtend 32)
        * argS m c (ix1 ⟨((t.val * 1024 + (512 * half.val + 128 * q.val + l.val)) * 72 + b.val) / 256, by omega⟩) + argO m c ix0 := by
  have e3 := blk3 m c t ht b ⟨512 * half.val + 128 * q.val + l.val, by omega⟩
  have e4 := blk4 m c t ⟨((((t.val * 2 + half.val) * 4 + q.val) * 128 + l.val) * 72 + b.val) / 256 / 128, by omega⟩
    ⟨((((t.val * 2 + half.val) * 4 + q.val) * 128 + l.val) * 72 + b.val) / 256 % 128, by omega⟩
  refine congrArg₂ (· + ·) (congrArg₂ (· * ·) (congrArg (fun z : BitVec 8 => FloatOps.sitofp (F := Ideal) .f32 (z.signExtend 32)) e3) (e4.trans ?_)) (blk0 m c t)
  refine congrArg (fun z => argS m c (ix1 z)) (Fin.ext ?_)
  show ((((t.val * 2 + half.val) * 4 + q.val) * 128 + l.val) * 72 + b.val) / 256 / 128 * 128
    + ((((t.val * 2 + half.val) * 4 + q.val) * 128 + l.val) * 72 + b.val) / 256 % 128 = _
  rw [Nat.div_add_mod']
  refine congrArg (· / 256) ?_
  omega

/-- The product of half a tile is that part of the result. -/
theorem halfMul_blk (c : Dev nD) (t : Fin cfg0.N) (ht : t.val < 36) (half : Fin 2) (b : Fin 16) (z : Fin 512) :
    halfMul (xpArr (iblk m c 1 ⟨0, by decide⟩)) (wtArr half (iblk m c 2 t))
        (scArr ⟨t.val, ht⟩ half (iblk m c 0 t) (iblk m c 3 t) (iblk m c 4 t)) (ix2 b z)
      = kerOut (argX m c) (argW m c) (argC m c) (argS m c) (argO m c) (ix2 b ⟨t.val * 1024 + (512 * half.val + z.val), by omega⟩) := by
  unfold halfMul mulRow kerOut
  refine Finset.sum_congr rfl fun n _ => congrArg₂ (· * ·) (congrFun (blk1 m c _) _) ?_
  unfold weight kerWeight
  have hz : 512 * half.val + 128 * (z.val / 128) + z.val % 128 = 512 * half.val + z.val := by omega
  have eo : (⟨t.val * 1024 + (512 * half.val + 128 * (z.val / 128) + z.val % 128), by omega⟩ : Fin 36864)
      = ⟨t.val * 1024 + (512 * half.val + z.val), by omega⟩ := Fin.ext (congrArg (t.val * 1024 + ·) hz)
  refine congrArg₂ (· * ·) ?_ ?_
  · refine congrArg (fun v => FloatOps.ofBits (F := Ideal) .bf16 (levelBits (nib v (n.val / 16 % 4)))) ?_
    refine (wtArr_blk m c t ht half ⟨z.val / 128, by omega⟩ _ ⟨z.val % 128, by omega⟩).trans ?_
    exact congrArg (fun o => argW m c (ix2 o _)) eo
  · refine (scArr_blk m c t ht half ⟨z.val / 128, by omega⟩ ⟨n.val / 64, by omega⟩ ⟨z.val % 128, by omega⟩).trans ?_
    refine congrArg (fun o : Fin 36864 => FloatOps.sitofp (F := Ideal) .f32 ((argC m c (ix2 o ⟨n.val / 64, by omega⟩)).signExtend 32)
        * argS m c (ix1 ⟨(o.val * 72 + n.val / 64) / 256, by omega⟩) + argO m c ix0) eo

/-- The product of a tile is that block of the result. -/
theorem tileMul_apply (c : Dev nD) (n : Nat) (hn : n < 36) (h : n < cfg0.N) (b : Fin 16) (z : Fin 1024) :
    tileMul m c n h ⟨n, hn⟩ (ix2 b z)
      = kerOut (argX m c) (argW m c) (argC m c) (argS m c) (argO m c) (ix2 b ⟨n * 1024 + z.val, by omega⟩) := by
  unfold tileMul outBlock
  by_cases hz : z.val < 512
  · refine (dif_pos hz).trans ((halfMul_blk m c ⟨n, h⟩ hn 0 b ⟨z.val, hz⟩).trans ?_)
    refine congrArg (fun o => kerOut (argX m c) (argW m c) (argC m c) (argS m c) (argO m c) (ix2 b o)) (Fin.ext ?_)
    show n * 1024 + (512 * 0 + z.val) = n * 1024 + z.val
    omega
  · refine (dif_neg hz).trans ((halfMul_blk m c ⟨n, h⟩ hn 1 b ⟨z.val - 512, by omega⟩).trans ?_)
    refine congrArg (fun o => kerOut (argX m c) (argW m c) (argC m c) (argS m c) (argO m c) (ix2 b o)) (Fin.ext ?_)
    show n * 1024 + (512 * 1 + (z.val - 512)) = n * 1024 + z.val
    omega

/-- The output window is written back at every point but the first. -/
theorem flush_iff : ∀ t : Fin cfg0.N, (cfg0.win 5).flush t = true ↔ 1 ≤ t.val := by decide +kernel

/-- THE KERNEL'S RESULT after the run. -/
theorem final (c : Dev nD) :
    (dats m 0 c).arrAt 5 cfg0.N = kerOut (argX m c) (argW m c) (argC m c) (argS m c) (argO m c) := by
  refine (dats m 0 c).arrAt_eq_of_cover 5 _ (fun t hf => ?_) (fun i => ?_)
  · have h1 := (flush_iff t).1 hf
    obtain ⟨n, ht⟩ := t
    obtain ⟨n, rfl⟩ : ∃ k, n = k + 1 := ⟨n - 1, (Nat.sub_add_cancel h1).symm⟩
    have hN : n + 1 < 37 := lt_of_lt_of_eq ht N_0
    rw [Value.flushed5]
    rw [out_tile m c n (by omega) ht]
    have val : ∀ z : S16x1024.Idx, tileMul m c n (lt_of_lt_of_eq (by omega) N_0.symm) ⟨n, by omega⟩ z
        = kerOut (argX m c) (argW m c) (argC m c) (argS m c) (argO m c) ((win0_5.blk ⟨n + 1, ht⟩).view.emb z) := by
      intro z
      have h1 : (z 1).val < 1024 := (z 1).isLt
      obtain ⟨e0, e1⟩ := index5 ⟨n + 1, ht⟩
      have e1' : win0_5.index ⟨n + 1, ht⟩ 1 = n := e1
      have hz : ix2 (n0 := 16) (n1 := 1024) (z 0) (z 1) = z := by funext a; fin_cases a <;> rfl
      have hy : (win0_5.blk ⟨n + 1, ht⟩).view.emb z = ix2 (n0 := 16) (n1 := 36864) (z 0) ⟨n * 1024 + (z 1).val, by omega⟩ := by
        funext a
        refine Fin.ext ?_
        fin_cases a
        · blk_simp
          show win0_5.index ⟨n + 1, ht⟩ 0 * 16 + (z 0).val = (z 0).val
          omega
        · blk_simp
          show win0_5.index ⟨n + 1, ht⟩ 1 * 1024 + (z 1).val = n * 1024 + (z 1).val
          omega
      rw [hy]
      conv_lhs => rw [← hz]
      exact tileMul_apply m c n (by omega) _ (z 0) (z 1)
    funext y
    blk_simp
    exact val y
  · have h0 : (i 0).val < 16 := (i 0).isLt
    have h1 : (i 1).val < 36864 := (i 1).isLt
    have hN : (i 1).val / 1024 + 1 < cfg0.N := lt_of_lt_of_eq (by omega) N_0.symm
    refine ⟨⟨(i 1).val / 1024 + 1, hN⟩, (flush_iff _).2 (by simp), ?_⟩
    mem_blk
    obtain ⟨e0, e1⟩ := index5 ⟨(i 1).val / 1024 + 1, hN⟩
    have e1' : win0_5.index ⟨(i 1).val / 1024 + 1, hN⟩ 1 = (i 1).val / 1024 := e1
    omega

end Cert.KernelIdeal.Hand

end
-- ==== Proof.Ref.lean ====
/- The reference's result at an index, and the order of its sum. -/
module

public import proofs.«01_k».proof.Proof.Final
public import proofs.«01_k».proof.Proof.Gen.ReferenceIdeal.Read

@[expose] public section

set_option maxRecDepth 16384

noncomputable section

namespace Cert.KernelIdeal.Hand

open Idealize.ShloMosaic Idealize.SL.Sem Cert.ReferenceIdeal Cert.ReferenceIdeal.Gen Cert.ReferenceIdeal.Read

/-- Choosing between two levels is choosing between their bits. -/
theorem select_ofBits (c : BitVec 1) (a b : BitVec 16) :
    Scalar.select c (FloatOps.ofBits (F := Ideal) .bf16 a) (FloatOps.ofBits (F := Ideal) .bf16 b)
      = FloatOps.ofBits (F := Ideal) .bf16 (Scalar.select c a b) := by
  unfold Scalar.select
  split <;> rfl

/-- The table of levels as a tree of choices, one bit of the code after the other, at the type of the levels' bits or of the levels. -/
def tree {α : Type} (f : BitVec 16 → α) (h : BitVec 32) : α :=
  let t (k : BitVec 32) (a b : α) : α := Scalar.select (IntOp.cmpi .ne (IntOp.andi h k) 0#32) b a
  t 8#32
    (t 4#32 (t 2#32 (t 1#32 (f 0xBF80#16) (f 0xBF32#16)) (t 1#32 (f 0xBF06#16) (f 0xBECA#16)))
      (t 2#32 (t 1#32 (f 0xBE92#16) (f 0xBE3D#16)) (t 1#32 (f 0xBDBA#16) (f 0x0000#16))))
    (t 4#32 (t 2#32 (t 1#32 (f 0x3DA3#16) (f 0x3E25#16)) (t 1#32 (f 0x3E7C#16) (f 0x3EAD#16)))
      (t 2#32 (t 1#32 (f 0x3EE2#16) (f 0x3F10#16)) (t 1#32 (f 0x3F39#16) (f 0x3F80#16))))

/-- The tree of levels ends at the level whose bits the tree of bits ends at. -/
theorem tree_ofBits (h : BitVec 32) : tree (FloatOps.ofBits (F := Ideal) .bf16) h = FloatOps.ofBits (F := Ideal) .bf16 (tree id h) := by
  unfold tree
  simp only [select_ofBits, id]

/-- The tree of bits at the high code of a packed byte. -/
theorem tree_hi : ∀ v : BitVec 8, tree id (IntOp.shrsi .host (v.setWidth 32) 4#32) = levelBits (nib v 0) := by decide +kernel

/-- The tree of bits at the low code of a packed byte. -/
theorem tree_lo : ∀ v : BitVec 8, tree id (IntOp.andi (v.setWidth 32) 15#32) = levelBits (nib v 1) := by decide +kernel

/-- The reference's levels of the high codes. -/
theorem ref_hi (x1 : (⟨S36864x2304, .i8⟩ : BufTy).Contents (Elt Ideal)) (i : S36864x2304.Idx) :
    val_main_v61 (F := Ideal) x1 i = FloatOps.ofBits (F := Ideal) .bf16 (levelBits (nib (x1 i) 0)) := by
  rw [← tree_hi, ← tree_ofBits]
  simp only [val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v12_apply, val_main_v11_apply, val_main_v10_apply]
  rfl

/-- The reference's levels of the low codes. -/
theorem ref_lo (x1 : (⟨S36864x2304, .i8⟩ : BufTy).Contents (Elt Ideal)) (i : S36864x2304.Idx) :
    val_main_v113 (F := Ideal) x1 i = FloatOps.ofBits (F := Ideal) .bf16 (levelBits (nib (x1 i) 1)) := by
  rw [← tree_lo, ← tree_ofBits]
  simp only [val_main_v113_apply, val_main_v112_apply, val_main_v111_apply, val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v14_apply, val_main_v13_apply, val_main_v10_apply]
  rfl

/-- The scale of block `b` of output `o`. -/
def absmax (codes : S36864x72.Idx → BitVec 8) (s : S10368.Idx → EReal) (off : S_.Idx → EReal) (o : Fin 36864) (b : Fin 72) : EReal :=
  FloatOps.sitofp (F := Ideal) .f32 ((codes (ix2 o b)).signExtend 32) * s (ix1 ⟨(o.val * 72 + b.val) / 256, by omega⟩) + off ix0

/-- The reference's scales. -/
theorem ref_absmax (x2 : (⟨S36864x72, .i8⟩ : BufTy).Contents (Elt Ideal)) (x3 : (⟨S10368, .f32⟩ : BufTy).Contents (Elt Ideal))
    (x4 : (⟨S_, .f32⟩ : BufTy).Contents (Elt Ideal)) (o : Fin 36864) (b : Fin 72) :
    val_main_v9 (F := Ideal) x2 x3 x4 (ix2 o b) = absmax x2 x3 x4 o b := by
  rw [val_main_v9_apply, val_main_v8_apply, val_main_v7_apply, val_main_v6_apply, val_main_v5_apply, val_main_v4_apply,
    val_main_v3_apply, val_main_v2_apply, val_main_v1_apply, val_main_v0_apply]
  refine congrArg₂ (· + ·) (congrArg₂ (· * ·) ?_ ?_) ?_
  · refine congrArg (fun j => FloatOps.sitofp (F := Ideal) .f32 ((x2 j).signExtend 32)) (funext fun a => Fin.ext ?_)
    fin_cases a
    · show ((o.val * 72 + b.val) / 256 * 256 + (o.val * 72 + b.val) % 256) / 72 = o.val
      omega
    · show ((o.val * 72 + b.val) / 256 * 256 + (o.val * 72 + b.val) % 256) % 72 = b.val
      omega
  · refine congrArg x3 (funext fun a => ?_)
    fin_cases a
    rfl
  · exact congrArg x4 (funext fun a => a.elim0)

/-- A weight of the reference: a level times its block's scale. -/
def refWeight (w : S36864x2304.Idx → BitVec 8) (codes : S36864x72.Idx → BitVec 8) (s : S10368.Idx → EReal) (off : S_.Idx → EReal)
    (o : Fin 36864) (k : Fin 2304) (c : Nat) : EReal :=
  FloatOps.ofBits (F := Ideal) .bf16 (levelBits (nib (w (ix2 o k)) c)) * absmax codes s off o ⟨k.val / 32, by omega⟩

section Weights
variable (x1 : (⟨S36864x2304, .i8⟩ : BufTy).Contents (Elt Ideal)) (x2 : (⟨S36864x72, .i8⟩ : BufTy).Contents (Elt Ideal))
  (x3 : (⟨S10368, .f32⟩ : BufTy).Contents (Elt Ideal)) (x4 : (⟨S_, .f32⟩ : BufTy).Contents (Elt Ideal)) (o : Fin 36864) (k : Fin 2304)

/-- The reference's weights of the high codes. -/
theorem ref_w_hi : val_main_v66 (F := Ideal) x1 x2 x3 x4 (ix2 o k) = refWeight x1 x2 x3 x4 o k 0 := by
  rw [val_main_v66_apply, val_main_v65_apply, val_main_v64_apply, val_main_v63_apply, val_main_v62_apply, ref_hi]
  refine congrArg₂ (· * ·) ?_ ?_
  · refine congrArg (fun j => FloatOps.ofBits (F := Ideal) .bf16 (levelBits (nib (x1 j) 0))) (funext fun a => Fin.ext ?_)
    fin_cases a
    · show (((o.val * 2304 + k.val) / 2304 * 72 + (o.val * 2304 + k.val) / 32 % 72) * 32 + (o.val * 2304 + k.val) % 32) / 2304 = o.val
      omega
    · show (((o.val * 2304 + k.val) / 2304 * 72 + (o.val * 2304 + k.val) / 32 % 72) * 32 + (o.val * 2304 + k.val) % 32) % 2304 = k.val
      omega
  · refine Eq.trans (congrArg (val_main_v9 (F := Ideal) x2 x3 x4) (funext fun a => Fin.ext ?_)) (ref_absmax x2 x3 x4 o ⟨k.val / 32, by omega⟩)
    fin_cases a
    · show (o.val * 2304 + k.val) / 2304 = o.val
      omega
    · show (o.val * 2304 + k.val) / 32 % 72 = k.val / 32
      omega

/-- The reference's weights of the low codes. -/
theorem ref_w_lo : val_main_v118 (F := Ideal) x1 x2 x3 x4 (ix2 o k) = refWeight x1 x2 x3 x4 o k 1 := by
  rw [val_main_v118_apply, val_main_v117_apply, val_main_v116_apply, val_main_v115_apply, val_main_v114_apply, ref_lo]
  refine congrArg₂ (· * ·) ?_ ?_
  · refine congrArg (fun j => FloatOps.ofBits (F := Ideal) .bf16 (levelBits (nib (x1 j) 1))) (funext fun a => Fin.ext ?_)
    fin_cases a
    · show (((o.val * 2304 + k.val) / 2304 * 72 + (o.val * 2304 + k.val) / 32 % 72) * 32 + (o.val * 2304 + k.val) % 32) / 2304 = o.val
      omega
    · show (((o.val * 2304 + k.val) / 2304 * 72 + (o.val * 2304 + k.val) / 32 % 72) * 32 + (o.val * 2304 + k.val) % 32) % 2304 = k.val
      omega
  · refine Eq.trans (congrArg (val_main_v9 (F := Ideal) x2 x3 x4) (funext fun a => Fin.ext ?_)) (ref_absmax x2 x3 x4 o ⟨k.val / 32, by omega⟩)
    fin_cases a
    · show (o.val * 2304 + k.val) / 2304 = o.val
      omega
    · show (o.val * 2304 + k.val) / 32 % 72 = k.val / 32
      omega

/-- The reference's result at an index: the even columns by the high codes' weights and the odd columns by the low codes'. -/
theorem ref_apply (x0 : (⟨S16x1x4608, .bf16⟩ : BufTy).Contents (Elt Ideal)) (b : Fin 16) :
    val_main_v125 (F := Ideal) x0 x1 x2 x3 x4 (ix2 b o)
      = (∑ k : Fin 2304, x0 (ix3 b 0 ⟨2 * k.val, by omega⟩) * refWeight x1 x2 x3 x4 o k 0)
        + ∑ k : Fin 2304, x0 (ix3 b 0 ⟨2 * k.val + 1, by omega⟩) * refWeight x1 x2 x3 x4 o k 1 := by
  rw [val_main_v125_apply, val_main_v124_apply, val_main_v123_apply, val_main_v120_apply, val_main_v122_apply]
  have ho : ∀ k : Fin 2304, ridx_main_v120 (idx_main_v125 (ix2 b o)) k = ix2 o k := by
    intro k; funext a; refine Fin.ext ?_
    fin_cases a
    · show (b.val * 36864 + o.val) % 36864 = o.val
      omega
    · rfl
  have ho' : ∀ k : Fin 2304, ridx_main_v122 (idx_main_v125 (ix2 b o)) k = ix2 o k := ho
  have hb : (b.val * 36864 + o.val) / 36864 = b.val := by omega
  refine congrArg₂ (· + ·) (Finset.sum_congr rfl fun k _ => ?_) (Finset.sum_congr rfl fun k _ => ?_)
  · rw [ho, ref_w_hi]
    refine congrArg (· * _) ?_
    unfold val_main_v119
    refine congrArg x0 (funext fun a => Fin.ext ?_)
    fin_cases a
    · show 0 + 1 * ((b.val * 36864 + o.val) / 36864) = b.val
      omega
    · show 0 + 1 * 0 = 0
      rfl
    · show 0 + 2 * k.val = 2 * k.val
      omega
  · rw [ho', ref_w_lo]
    refine congrArg (· * _) ?_
    unfold val_main_v121
    refine congrArg x0 (funext fun a => Fin.ext ?_)
    fin_cases a
    · show 0 + 1 * ((b.val * 36864 + o.val) / 36864) = b.val
      omega
    · show 0 + 1 * 0 = 0
      rfl
    · show 1 + 2 * k.val = 2 * k.val + 1
      omega
end Weights

/-- The kernel's order of the columns is a permutation of them. -/
theorem permCol_bijective : Function.Bijective permCol := by
  refine Finite.injective_iff_bijective.1 fun a b h => ?_
  have h : a.val / 64 * 64 + (4 * (a.val % 16) + a.val / 16 % 4) = b.val / 64 * 64 + (4 * (b.val % 16) + b.val / 16 % 4) := congrArg Fin.val h
  refine Fin.ext ?_
  omega

/-- A sum over the columns is one over the even and one over the odd ones. -/
theorem sum_parity (g : Fin 4608 → EReal) :
    ∑ n, g n = (∑ k : Fin 2304, g ⟨2 * k.val, by omega⟩) + ∑ k : Fin 2304, g ⟨2 * k.val + 1, by omega⟩ := by
  rw [← Finset.sum_add_distrib]
  rw [← Equiv.sum_comp (finProdFinEquiv : Fin 2304 × Fin 2 ≃ Fin (2304 * 2)) g, Fintype.sum_prod_type]
  refine Finset.sum_congr rfl fun k _ => ?_
  rw [Fin.sum_univ_two]
  refine congrArg₂ (· + ·) (congrArg g (Fin.ext ?_)) (congrArg g (Fin.ext ?_))
  · show 0 + 2 * k.val = 2 * k.val
    omega
  · show 1 + 2 * k.val = 2 * k.val + 1
    omega

/-- THE TWO RESULTS ARE EQUAL: the kernel's sum is the reference's, its rows in another order. -/
theorem kerOut_eq (x : S16x1x4608.Idx → EReal) (w : S36864x2304.Idx → BitVec 8) (codes : S36864x72.Idx → BitVec 8)
    (s : S10368.Idx → EReal) (off : S_.Idx → EReal) (b : Fin 16) (o : Fin 36864) :
    kerOut (fun y => x (ix3 (y 0) 0 (y 1))) w codes s off (ix2 b o) = val_main_v125 (F := Ideal) x w codes s off (ix2 b o) := by
  let g : Fin 4608 → EReal := fun n => x (ix3 b 0 n) * refWeight w codes s off o ⟨n.val / 2, by omega⟩ n.val
  have hg : ∀ n : Fin 4608, x (ix3 b 0 (permCol n)) * kerWeight w codes s off o n = g (permCol n) := by
    intro n
    have hp : (permCol n).val = n.val / 64 * 64 + (4 * (n.val % 16) + n.val / 16 % 4) := rfl
    refine congrArg (x (ix3 b 0 (permCol n)) * ·) (congrArg₂ (· * ·) ?_ ?_)
    · have e : (⟨n.val / 64 * 32 + (2 * (n.val % 16) + n.val / 16 % 4 / 2), by omega⟩ : Fin 2304) = ⟨(permCol n).val / 2, by omega⟩ :=
        Fin.ext (by show n.val / 64 * 32 + (2 * (n.val % 16) + n.val / 16 % 4 / 2) = (permCol n).val / 2; omega)
      have ec : nib (w (ix2 o ⟨(permCol n).val / 2, by omega⟩)) (n.val / 16 % 4) = nib (w (ix2 o ⟨(permCol n).val / 2, by omega⟩)) (permCol n).val := by
        unfold nib
        rw [show n.val / 16 % 4 % 2 = (permCol n).val % 2 by omega]
      rw [e, ec]
    · have e : (⟨n.val / 64, by omega⟩ : Fin 72) = ⟨(permCol n).val / 2 / 32, by omega⟩ := Fin.ext (by show n.val / 64 = (permCol n).val / 2 / 32; omega)
      exact congrArg (absmax codes s off o) e
  rw [ref_apply]
  refine (Finset.sum_congr rfl fun n _ => hg n).trans ?_
  rw [permCol_bijective.sum_comp g, sum_parity g]
  refine congrArg₂ (· + ·) (Finset.sum_congr rfl fun k _ => ?_) (Finset.sum_congr rfl fun k _ => ?_)
  · refine congrArg (x (ix3 b 0 ⟨2 * k.val, by omega⟩) * ·) ?_
    show refWeight w codes s off o ⟨2 * k.val / 2, by omega⟩ (2 * k.val) = _
    have e : (⟨2 * k.val / 2, by omega⟩ : Fin 2304) = k := Fin.ext (by show 2 * k.val / 2 = k.val; omega)
    rw [e]
    unfold refWeight nib
    rw [show 2 * k.val % 2 = 0 % 2 by omega]
  · refine congrArg (x (ix3 b 0 ⟨2 * k.val + 1, by omega⟩) * ·) ?_
    show refWeight w codes s off o ⟨(2 * k.val + 1) / 2, by omega⟩ (2 * k.val + 1) = _
    have e : (⟨(2 * k.val + 1) / 2, by omega⟩ : Fin 2304) = k := Fin.ext (by show (2 * k.val + 1) / 2 = k.val; omega)
    rw [e]
    unfold refWeight nib
    rw [show (2 * k.val + 1) % 2 = 1 % 2 by omega]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The reference runs, keeps its arguments, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result array after its run is the reference's result at the same arguments. -/
theorem kernel_result (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 5 Cert.KernelIdeal.cfg0.N
      = Cert.ReferenceIdeal.Read.val_main_v125 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  refine (Cert.KernelIdeal.Hand.final m c).trans (funext fun y => ?_)
  have val : ∀ z : Cert.ReferenceIdeal.S16x36864.Idx, Cert.KernelIdeal.Hand.kerOut (Cert.KernelIdeal.Hand.argX m c) (Cert.KernelIdeal.Hand.argW m c)
      (Cert.KernelIdeal.Hand.argC m c) (Cert.KernelIdeal.Hand.argS m c) (Cert.KernelIdeal.Hand.argO m c) z
      = Cert.ReferenceIdeal.Read.val_main_v125 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) z := by
    intro z
    have hz : ix2 (n0 := 16) (n1 := 36864) (z 0) (z 1) = z := by funext a; fin_cases a <;> rfl
    rw [← hz]
    exact Cert.KernelIdeal.Hand.kerOut_eq _ _ _ _ _ (z 0) (z 1)
  exact val y

/-- The kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  obtain ⟨h0, h1, h2, h3, h4⟩ := hargs c
  refine (h c).1.trans ?_
  rw [Cert.ReferenceIdeal.Read.val_main_v125_eq, h0, h1, h2, h3, h4]
  exact (kernel_result m c).symm

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
